-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_scan [hPre_finite_scan : Cert.Pre_finite_scan.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_scan.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_scan [hPre_finite_scan : Cert.Pre_finite_scan.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_scan.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_scan [hKernel6Ideal : Cert.Kernel6Ideal.Facts] [hPre_finite_scan : Cert.Pre_finite_scan.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_scan m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_scan [hReference6Ideal : Cert.Reference6Ideal.Facts] [hPre_finite_scan : Cert.Pre_finite_scan.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_scan m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def preserves_Kernel6_Kernel6Ideal : Prop :=
  True

def algebraic_Kernel6Ideal_Reference6Ideal_pre_finite_scan [hKernel6Ideal : Cert.Kernel6Ideal.Facts] [hReference6Ideal : Cert.Reference6Ideal.Facts] [hPre_finite_scan : Cert.Pre_finite_scan.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_scan m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hPre_finite_scan : Cert.Pre_finite_scan.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Kernel6Ideal_pre_finite_scan (hKernel6Ideal := hKernel6Ideal) (hPre_finite_scan := hPre_finite_scan)
    ∧ quiescent_Reference6Ideal (hReference6Ideal := hReference6Ideal)
    ∧ quiescent_Reference6Ideal_pre_finite_scan (hReference6Ideal := hReference6Ideal) (hPre_finite_scan := hPre_finite_scan)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal_pre_finite_scan (hKernel6Ideal := hKernel6Ideal) (hReference6Ideal := hReference6Ideal) (hPre_finite_scan := hPre_finite_scan)
-- ==== Pre_finite_scan.lean ====
abbrev S24576x1024 : Shape := ⟨2, ![24576, 1024]⟩
abbrev S1024 : Shape := ⟨1, ![1024]⟩
abbrev S1024x1024 : Shape := ⟨2, ![1024, 1024]⟩
abbrev S_ : Shape := ⟨0, ![]⟩

class Facts : Prop where
  bcast_S_S24576x1024 : S_.BroadcastsInDim S24576x1024 (![] : Fin 0 → Fin S24576x1024.rank)
  reducesTo_S24576x1024_S_d0_1 : S24576x1024.ReducesTo [0, 1] S_
  h_S_ : 0 < S_.numel

variable [Facts]

def fn {F : FTy → Type} [FloatOps F] (main_arg0 : FVec F S24576x1024 .f32) (main_arg1 : FVec F S24576x1024 .f32) (main_arg2 : FVec F S24576x1024 .f32) (main_arg3 : FVec F S24576x1024 .f32) (main_arg4 : FVec F S1024 .f32) (main_arg5 : FVec F S1024 .f32) (main_arg6 : FVec F S1024x1024 .f32) : IVec S_ 1 :=
  let main_v0 : FVec F S24576x1024 .f32 := Host.absf main_arg0
  let main_cst : FVec F S_ .f32 := constant S_ .f32 0x7F800000#32
  let main_v1 : FVec F S24576x1024 .f32 := broadcastInDim S24576x1024 ![] bcast_S_S24576x1024 main_cst
  let main_v2 : IVec S24576x1024 1 := cmpf .olt main_v0 main_v1
  let main_c : IVec S_ 1 := constantI S_ 1 1#1
  let main_v3 : IVec S_ 1 := (fun x v => Host.reduce IntOp.andi x v reducesTo_S24576x1024_S_d0_1 h_S_) main_v2 main_c
  let main_v4 : FVec F S24576x1024 .f32 := Host.absf main_arg1
  let main_cst_0 : FVec F S_ .f32 := constant S_ .f32 0x7F800000#32
  let main_v5 : FVec F S24576x1024 .f32 := broadcastInDim S24576x1024 ![] bcast_S_S24576x1024 main_cst_0
  let main_v6 : IVec S24576x1024 1 := cmpf .olt main_v4 main_v5
  let main_c_1 : IVec S_ 1 := constantI S_ 1 1#1
  let main_v7 : IVec S_ 1 := (fun x v => Host.reduce IntOp.andi x v reducesTo_S24576x1024_S_d0_1 h_S_) main_v6 main_c_1
  let main_v8 : IVec S_ 1 := andi main_v3 main_v7
  main_v8
-- ==== Kernel.lean ====
abbrev S24576x1024 : Shape := ⟨2, ![24576, 1024]⟩
abbrev S24576x4096 : Shape := ⟨2, ![24576, 4096]⟩
abbrev S5x6x1024 : Shape := ⟨3, ![5, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S1x6x1024 : Shape := ⟨3, ![1, 6, 1024]⟩
abbrev S6x1024 : Shape := ⟨2, ![6, 1024]⟩
abbrev S256 : Shape := ⟨1, ![256]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S24576x1024, .f32⟩
  | .hbm, ⟨3, _⟩ => ⟨S24576x4096, .f32⟩
  | .hbm, ⟨4, _⟩ => ⟨S5x6x1024, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1x1024, .f32⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S24576x1024, .f32⟩
  | .hbm, ⟨16, _⟩ => ⟨S24576x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1024x1024, .bf16⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S24576x1024 : Shape := ⟨2, ![24576, 1024]⟩
abbrev S24576x4096 : Shape := ⟨2, ![24576, 4096]⟩
abbrev S5x6x1024 : Shape := ⟨3, ![5, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S8192x6x1024 : Shape := ⟨3, ![8192, 6, 1024]⟩
abbrev S4x6x1024 : Shape := ⟨3, ![4, 6, 1024]⟩
abbrev S4x1x6x1024 : Shape := ⟨4, ![4, 1, 6, 1024]⟩
abbrev S4x4096x6x1024 : Shape := ⟨4, ![4, 4096, 6, 1024]⟩
abbrev S16384x6x1024 : Shape := ⟨3, ![16384, 6, 1024]⟩
abbrev S24576x6x1024 : Shape := ⟨3, ![24576, 6, 1024]⟩
abbrev S24576x1x1024 : Shape := ⟨3, ![24576, 1, 1024]⟩
abbrev S_ : Shape := ⟨0, ![]⟩
abbrev S24576 : Shape := ⟨1, ![24576]⟩
abbrev S24576x1 : Shape := ⟨2, ![24576, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S24576x1024, .f32⟩
  | .hbm, ⟨3, _⟩ => ⟨S24576x4096, .f32⟩
  | .hbm, ⟨4, _⟩ => ⟨S5x6x1024, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1x6x1024, .f32⟩
  | .hbm, ⟨11, _⟩ => ⟨S8192x6x1024, .f32⟩
  | .hbm, ⟨12, _⟩ => ⟨S4x6x1024, .f32⟩
  | .hbm, ⟨13, _⟩ => ⟨S4x1x6x1024, .f32⟩
  | .hbm, ⟨14, _⟩ => ⟨S4x4096x6x1024, .f32⟩
  | .hbm, ⟨15, _⟩ => ⟨S16384x6x1024, .f32⟩
  | .hbm, ⟨16, _⟩ => ⟨S24576x6x1024, .f32⟩
  | .hbm, ⟨17, _⟩ => ⟨S24576x1x1024, .f32⟩
  | .hbm, ⟨18, _⟩ => ⟨S24576x1024, .f32⟩
  | .hbm, ⟨19, _⟩ => ⟨S24576x1x1024, .f32⟩
  | .hbm, ⟨20, _⟩ => ⟨S24576x1024, .f32⟩
  | .hbm, ⟨21, _⟩ => ⟨S24576x1x1024, .f32⟩
  | .hbm, ⟨22, _⟩ => ⟨S24576x1024, .f32⟩
  | .hbm, ⟨23, _⟩ => ⟨S24576x1x1024, .f32⟩
  | .hbm, ⟨24, _⟩ => ⟨S24576x1024, .f32⟩
  | .hbm, ⟨25, _⟩ => ⟨S24576x1024, .f32⟩
  | .hbm, ⟨26, _⟩ => ⟨S24576x1024, .f32⟩
  | .hbm, ⟨27, _⟩ => ⟨S24576x1024, .f32⟩
  | .hbm, ⟨28, _⟩ => ⟨S24576x1024, .f32⟩
  | .hbm, ⟨29, _⟩ => ⟨S_, .f32⟩
  | .hbm, ⟨30, _⟩ => ⟨S24576x1024, .f32⟩
  | .hbm, ⟨31, _⟩ => ⟨S24576x1024, .f32⟩
  | .hbm, ⟨32, _⟩ => ⟨S_, .f32⟩
  | .hbm, ⟨33, _⟩ => ⟨S24576x1024, .f32⟩
  | .hbm, ⟨34, _⟩ => ⟨S24576x1024, .f32⟩
  | .hbm, ⟨35, _⟩ => ⟨S24576x1024, .f32⟩
  | .hbm, ⟨36, _⟩ => ⟨S24576x1024, .f32⟩
  | .hbm, ⟨37, _⟩ => ⟨S24576x1024, .f32⟩
  | .hbm, ⟨38, _⟩ => ⟨S_, .f32⟩
  | .hbm, ⟨39, _⟩ => ⟨S24576x1024, .f32⟩
  | .hbm, ⟨40, _⟩ => ⟨S24576x1024, .f32⟩
  | .hbm, ⟨41, _⟩ => ⟨S_, .f32⟩
  | .hbm, ⟨42, _⟩ => ⟨S24576x1024, .f32⟩
  | .hbm, ⟨43, _⟩ => ⟨S24576x1024, .f32⟩
  | .hbm, ⟨44, _⟩ => ⟨S24576x1024, .f32⟩
  | .hbm, ⟨45, _⟩ => ⟨S24576x1024, .f32⟩
  | .hbm, ⟨46, _⟩ => ⟨S24576x1024, .f32⟩
  | .hbm, ⟨47, _⟩ => ⟨S24576x1024, .f32⟩
  | .hbm, ⟨48, _⟩ => ⟨S24576x1024, .f32⟩
  | .hbm, ⟨49, _⟩ => ⟨S24576x1024, .f32⟩
  | .hbm, ⟨50, _⟩ => ⟨S_, .f32⟩
  | .hbm, ⟨51, _⟩ => ⟨S24576, .f32⟩
  | .hbm, ⟨52, _⟩ => ⟨S24576x1, .f32⟩
  | .hbm, ⟨53, _⟩ => ⟨S_, .f32⟩
  | .hbm, ⟨54, _⟩ => ⟨S24576x1, .f32⟩
  | .hbm, ⟨55, _⟩ => ⟨S24576x1, .f32⟩
  | .hbm, ⟨56, _⟩ => ⟨S_, .f32⟩
  | .hbm, ⟨57, _⟩ => ⟨S24576x1, .f32⟩
  | .hbm, ⟨58, _⟩ => ⟨S24576x1, .f32⟩
  | .hbm, ⟨59, _⟩ => ⟨S24576x1, .f32⟩
  | .hbm, ⟨60, _⟩ => ⟨S24576x1024, .f32⟩
  | .hbm, ⟨61, _⟩ => ⟨S24576x1024, .f32⟩
  | .hbm, ⟨62, _⟩ => ⟨S1x1024, .f32⟩
  | .hbm, ⟨63, _⟩ => ⟨S24576x1024, .f32⟩
  | .hbm, ⟨64, _⟩ => ⟨S24576x1024, .f32⟩
  | .hbm, ⟨65, _⟩ => ⟨S_, .f32⟩
  | .hbm, ⟨66, _⟩ => ⟨S24576x1024, .f32⟩
  | .hbm, ⟨67, _⟩ => ⟨S24576x1024, .f32⟩
  | .hbm, ⟨68, _⟩ => ⟨S24576x1024, .f32⟩
  | .hbm, ⟨69, _⟩ => ⟨S24576x1024, .f32⟩
  | .hbm, ⟨70, _⟩ => ⟨S24576x4096, .f32⟩
  | .hbm, ⟨71, _⟩ => ⟨S_, .f32⟩
  | .hbm, ⟨72, _⟩ => ⟨S24576x4096, .f32⟩
  | .hbm, ⟨73, _⟩ => ⟨S24576x4096, .f32⟩
  | .hbm, ⟨74, _⟩ => ⟨S24576x4096, .f32⟩
  | .hbm, ⟨75, _⟩ => ⟨S24576x1024, .f32⟩
  | .hbm, ⟨76, _⟩ => ⟨S24576x1024, .f32⟩
  | .hbm, ⟨77, _⟩ => ⟨S24576x1024, .f32⟩
  | .hbm, ⟨78, _⟩ => ⟨S24576x1024, .f32⟩
  | .hbm, ⟨79, _⟩ => ⟨S_, .f32⟩
  | .hbm, ⟨80, _⟩ => ⟨S24576, .f32⟩
  | .hbm, ⟨81, _⟩ => ⟨S24576x1, .f32⟩
  | .hbm, ⟨82, _⟩ => ⟨S_, .f32⟩
  | .hbm, ⟨83, _⟩ => ⟨S24576x1, .f32⟩
  | .hbm, ⟨84, _⟩ => ⟨S24576x1, .f32⟩
  | .hbm, ⟨85, _⟩ => ⟨S_, .f32⟩
  | .hbm, ⟨86, _⟩ => ⟨S24576x1, .f32⟩
  | .hbm, ⟨87, _⟩ => ⟨S24576x1, .f32⟩
  | .hbm, ⟨88, _⟩ => ⟨S24576x1, .f32⟩
  | .hbm, ⟨89, _⟩ => ⟨S24576x1024, .f32⟩
  | .hbm, ⟨90, _⟩ => ⟨S24576x1024, .f32⟩
  | .hbm, ⟨91, _⟩ => ⟨S1x1024, .f32⟩
  | .hbm, ⟨92, _⟩ => ⟨S24576x1024, .f32⟩
  | .hbm, ⟨93, _⟩ => ⟨S24576x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Kernel2.lean ====
abbrev S24576x4096 : Shape := ⟨2, ![24576, 4096]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S128x8 : Shape := ⟨2, ![128, 8]⟩
abbrev S128x8x128 : Shape := ⟨3, ![128, 8, 128]⟩
abbrev S128x1024 : Shape := ⟨2, ![128, 1024]⟩
abbrev S24576x1024 : Shape := ⟨2, ![24576, 1024]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 12
  | .vmem => 11
  | .smem => 0
  | _ => 0

abbrev bufTy : (tb : Table) → Fin (tcTables nBuf tb) → BufTy
  | .hbm, ⟨0, _⟩ => ⟨S24576x4096, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1024x1024, .f32⟩
  | .hbm, ⟨5, _⟩ => ⟨S1x1024, .f32⟩
  | .hbm, ⟨6, _⟩ => ⟨S8x128x128, .bf16⟩
  | .hbm, ⟨7, _⟩ => ⟨S128x8, .f32⟩
  | .hbm, ⟨8, _⟩ => ⟨S128x8x128, .f32⟩
  | .hbm, ⟨9, _⟩ => ⟨S128x1024, .f32⟩
  | .hbm, ⟨10, _⟩ => ⟨S1024x1024, .bf16⟩
  | .hbm, ⟨11, _⟩ => ⟨S24576x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128x128, .bf16⟩
  | .local _ .vmem, ⟨6, _⟩ => ⟨S128x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S24576x4096 : Shape := ⟨2, ![24576, 4096]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S24576x1024 : Shape := ⟨2, ![24576, 1024]⟩
abbrev S_ : Shape := ⟨0, ![]⟩
abbrev S24576 : Shape := ⟨1, ![24576]⟩
abbrev S24576x1 : Shape := ⟨2, ![24576, 1]⟩
abbrev S1x1024 : Shape := ⟨2, ![1, 1024]⟩
abbrev S192x128x8x128 : Shape := ⟨4, ![192, 128, 8, 128]⟩
abbrev S8x192x128x128 : Shape := ⟨4, ![8, 192, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 78
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1024x1024, .f32⟩
  | .hbm, ⟨5, _⟩ => ⟨S24576x1024, .f32⟩
  | .hbm, ⟨6, _⟩ => ⟨S24576x1024, .f32⟩
  | .hbm, ⟨7, _⟩ => ⟨S24576x1024, .f32⟩
  | .hbm, ⟨8, _⟩ => ⟨S24576x1024, .f32⟩
  | .hbm, ⟨9, _⟩ => ⟨S_, .f32⟩
  | .hbm, ⟨10, _⟩ => ⟨S24576x1024, .f32⟩
  | .hbm, ⟨11, _⟩ => ⟨S24576x1024, .f32⟩
  | .hbm, ⟨12, _⟩ => ⟨S24576x1024, .f32⟩
  | .hbm, ⟨13, _⟩ => ⟨S_, .f32⟩
  | .hbm, ⟨14, _⟩ => ⟨S24576x1024, .f32⟩
  | .hbm, ⟨15, _⟩ => ⟨S24576x1024, .f32⟩
  | .hbm, ⟨16, _⟩ => ⟨S24576x1024, .f32⟩
  | .hbm, ⟨17, _⟩ => ⟨S_, .f32⟩
  | .hbm, ⟨18, _⟩ => ⟨S24576x1024, .f32⟩
  | .hbm, ⟨19, _⟩ => ⟨S24576x1024, .f32⟩
  | .hbm, ⟨20, _⟩ => ⟨S_, .f32⟩
  | .hbm, ⟨21, _⟩ => ⟨S24576x1024, .f32⟩
  | .hbm, ⟨22, _⟩ => ⟨S24576x1024, .f32⟩
  | .hbm, ⟨23, _⟩ => ⟨S24576x1024, .f32⟩
  | .hbm, ⟨24, _⟩ => ⟨S24576x1024, .f32⟩
  | .hbm, ⟨25, _⟩ => ⟨S24576x1024, .f32⟩
  | .hbm, ⟨26, _⟩ => ⟨S_, .f32⟩
  | .hbm, ⟨27, _⟩ => ⟨S24576x1024, .f32⟩
  | .hbm, ⟨28, _⟩ => ⟨S24576x1024, .f32⟩
  | .hbm, ⟨29, _⟩ => ⟨S24576x1024, .f32⟩
  | .hbm, ⟨30, _⟩ => ⟨S_, .f32⟩
  | .hbm, ⟨31, _⟩ => ⟨S24576x1024, .f32⟩
  | .hbm, ⟨32, _⟩ => ⟨S24576x1024, .f32⟩
  | .hbm, ⟨33, _⟩ => ⟨S24576x1024, .f32⟩
  | .hbm, ⟨34, _⟩ => ⟨S_, .f32⟩
  | .hbm, ⟨35, _⟩ => ⟨S24576x1024, .f32⟩
  | .hbm, ⟨36, _⟩ => ⟨S24576x1024, .f32⟩
  | .hbm, ⟨37, _⟩ => ⟨S_, .f32⟩
  | .hbm, ⟨38, _⟩ => ⟨S24576x1024, .f32⟩
  | .hbm, ⟨39, _⟩ => ⟨S24576x1024, .f32⟩
  | .hbm, ⟨40, _⟩ => ⟨S24576x1024, .f32⟩
  | .hbm, ⟨41, _⟩ => ⟨S_, .f32⟩
  | .hbm, ⟨42, _⟩ => ⟨S24576, .f32⟩
  | .hbm, ⟨43, _⟩ => ⟨S24576x1, .f32⟩
  | .hbm, ⟨44, _⟩ => ⟨S_, .f32⟩
  | .hbm, ⟨45, _⟩ => ⟨S24576x1, .f32⟩
  | .hbm, ⟨46, _⟩ => ⟨S24576x1, .f32⟩
  | .hbm, ⟨47, _⟩ => ⟨S24576x1024, .f32⟩
  | .hbm, ⟨48, _⟩ => ⟨S24576x1024, .f32⟩
  | .hbm, ⟨49, _⟩ => ⟨S24576x1024, .f32⟩
  | .hbm, ⟨50, _⟩ => ⟨S_, .f32⟩
  | .hbm, ⟨51, _⟩ => ⟨S24576, .f32⟩
  | .hbm, ⟨52, _⟩ => ⟨S24576x1, .f32⟩
  | .hbm, ⟨53, _⟩ => ⟨S_, .f32⟩
  | .hbm, ⟨54, _⟩ => ⟨S24576x1, .f32⟩
  | .hbm, ⟨55, _⟩ => ⟨S24576x1, .f32⟩
  | .hbm, ⟨56, _⟩ => ⟨S24576x1024, .f32⟩
  | .hbm, ⟨57, _⟩ => ⟨S24576x1024, .f32⟩
  | .hbm, ⟨58, _⟩ => ⟨S_, .f32⟩
  | .hbm, ⟨59, _⟩ => ⟨S24576x1, .f32⟩
  | .hbm, ⟨60, _⟩ => ⟨S24576x1, .f32⟩
  | .hbm, ⟨61, _⟩ => ⟨S24576x1, .f32⟩
  | .hbm, ⟨62, _⟩ => ⟨S24576x1024, .f32⟩
  | .hbm, ⟨63, _⟩ => ⟨S24576x1024, .f32⟩
  | .hbm, ⟨64, _⟩ => ⟨S1x1024, .f32⟩
  | .hbm, ⟨65, _⟩ => ⟨S24576x1024, .f32⟩
  | .hbm, ⟨66, _⟩ => ⟨S24576x1024, .f32⟩
  | .hbm, ⟨67, _⟩ => ⟨S192x128x8x128, .f32⟩
  | .hbm, ⟨68, _⟩ => ⟨S8x192x128x128, .f32⟩
  | .hbm, ⟨69, _⟩ => ⟨S192x128x8x128, .f32⟩
  | .hbm, ⟨70, _⟩ => ⟨S128x8, .f32⟩
  | .hbm, ⟨71, _⟩ => ⟨S128x8x1, .f32⟩
  | .hbm, ⟨72, _⟩ => ⟨S1x128x8x1, .f32⟩
  | .hbm, ⟨73, _⟩ => ⟨S192x128x8x128, .f32⟩
  | .hbm, ⟨74, _⟩ => ⟨S192x128x8x128, .f32⟩
  | .hbm, ⟨75, _⟩ => ⟨S24576x1024, .f32⟩
  | .hbm, ⟨76, _⟩ => ⟨S24576x1024, .f32⟩
  | .hbm, ⟨77, _⟩ => ⟨S24576x1024, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel3.lean ====
abbrev S24576x1024 : Shape := ⟨2, ![24576, 1024]⟩
abbrev S5x6x1024 : Shape := ⟨3, ![5, 6, 1024]⟩
abbrev S1024 : Shape := ⟨1, ![1024]⟩
abbrev S1024x7552 : Shape := ⟨2, ![1024, 7552]⟩
abbrev S1x1024 : Shape := ⟨2, ![1, 1024]⟩
abbrev S1024x3456 : Shape := ⟨2, ![1024, 3456]⟩
abbrev S24576x3456 : Shape := ⟨2, ![24576, 3456]⟩
abbrev S2048x1024 : Shape := ⟨2, ![2048, 1024]⟩
abbrev S1x6x1024 : Shape := ⟨3, ![1, 6, 1024]⟩
abbrev S1024x1152 : Shape := ⟨2, ![1024, 1152]⟩
abbrev S2048x1152 : Shape := ⟨2, ![2048, 1152]⟩
abbrev S6x1024 : Shape := ⟨2, ![6, 1024]⟩
abbrev S2048 : Shape := ⟨1, ![2048]⟩
abbrev S2048x1 : Shape := ⟨2, ![2048, 1]⟩

abbrev nBuf : Space → Nat
  | .hbm => 8
  | .vmem => 10
  | .smem => 0
  | _ => 0

abbrev bufTy : (tb : Table) → Fin (tcTables nBuf tb) → BufTy
  | .hbm, ⟨0, _⟩ => ⟨S24576x1024, .f32⟩
  | .hbm, ⟨1, _⟩ => ⟨S5x6x1024, .f32⟩
  | .hbm, ⟨2, _⟩ => ⟨S1024, .f32⟩
  | .hbm, ⟨3, _⟩ => ⟨S1024x7552, .f32⟩
  | .hbm, ⟨4, _⟩ => ⟨S1x1024, .f32⟩
  | .hbm, ⟨5, _⟩ => ⟨S1024x3456, .f32⟩
  | .hbm, ⟨6, _⟩ => ⟨S1024x3456, .bf16⟩
  | .hbm, ⟨7, _⟩ => ⟨S24576x3456, .f32⟩
  | .local _ .vmem, ⟨0, _⟩ => ⟨S2048x1024, .f32⟩
  | .local _ .vmem, ⟨1, _⟩ => ⟨S2048x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1152, .bf16⟩
  | .local _ .vmem, ⟨6, _⟩ => ⟨S1024x1152, .bf16⟩
  | .local _ .vmem, ⟨7, _⟩ => ⟨S2048x1152, .f32⟩
  | .local _ .vmem, ⟨8, _⟩ => ⟨S2048x1152, .f32⟩
  | .local _ .vmem, ⟨9, _⟩ => ⟨S2048x1024, .bf16⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S24576x1024 : Shape := ⟨2, ![24576, 1024]⟩
abbrev S5x6x1024 : Shape := ⟨3, ![5, 6, 1024]⟩
abbrev S1024 : Shape := ⟨1, ![1024]⟩
abbrev S1024x7552 : Shape := ⟨2, ![1024, 7552]⟩
abbrev S1x6x1024 : Shape := ⟨3, ![1, 6, 1024]⟩
abbrev S8192x6x1024 : Shape := ⟨3, ![8192, 6, 1024]⟩
abbrev S4x6x1024 : Shape := ⟨3, ![4, 6, 1024]⟩
abbrev S4x1x6x1024 : Shape := ⟨4, ![4, 1, 6, 1024]⟩
abbrev S4x4096x6x1024 : Shape := ⟨4, ![4, 4096, 6, 1024]⟩
abbrev S16384x6x1024 : Shape := ⟨3, ![16384, 6, 1024]⟩
abbrev S24576x6x1024 : Shape := ⟨3, ![24576, 6, 1024]⟩
abbrev S24576x1x1024 : Shape := ⟨3, ![24576, 1, 1024]⟩
abbrev S_ : Shape := ⟨0, ![]⟩
abbrev S24576 : Shape := ⟨1, ![24576]⟩
abbrev S24576x1 : Shape := ⟨2, ![24576, 1]⟩
abbrev S1x1024 : Shape := ⟨2, ![1, 1024]⟩
abbrev S24576x7552 : Shape := ⟨2, ![24576, 7552]⟩
abbrev S24576x3456 : Shape := ⟨2, ![24576, 3456]⟩

abbrev nBuf : Space → Nat
  | .hbm => 38
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S5x6x1024, .f32⟩
  | .hbm, ⟨2, _⟩ => ⟨S1024, .f32⟩
  | .hbm, ⟨3, _⟩ => ⟨S1024x7552, .f32⟩
  | .hbm, ⟨4, _⟩ => ⟨S1x6x1024, .f32⟩
  | .hbm, ⟨5, _⟩ => ⟨S8192x6x1024, .f32⟩
  | .hbm, ⟨6, _⟩ => ⟨S4x6x1024, .f32⟩
  | .hbm, ⟨7, _⟩ => ⟨S4x1x6x1024, .f32⟩
  | .hbm, ⟨8, _⟩ => ⟨S4x4096x6x1024, .f32⟩
  | .hbm, ⟨9, _⟩ => ⟨S16384x6x1024, .f32⟩
  | .hbm, ⟨10, _⟩ => ⟨S24576x6x1024, .f32⟩
  | .hbm, ⟨11, _⟩ => ⟨S24576x1x1024, .f32⟩
  | .hbm, ⟨12, _⟩ => ⟨S24576x1024, .f32⟩
  | .hbm, ⟨13, _⟩ => ⟨S24576x1x1024, .f32⟩
  | .hbm, ⟨14, _⟩ => ⟨S24576x1024, .f32⟩
  | .hbm, ⟨15, _⟩ => ⟨S24576x1024, .f32⟩
  | .hbm, ⟨16, _⟩ => ⟨S_, .f32⟩
  | .hbm, ⟨17, _⟩ => ⟨S24576, .f32⟩
  | .hbm, ⟨18, _⟩ => ⟨S24576x1, .f32⟩
  | .hbm, ⟨19, _⟩ => ⟨S_, .f32⟩
  | .hbm, ⟨20, _⟩ => ⟨S24576x1, .f32⟩
  | .hbm, ⟨21, _⟩ => ⟨S24576x1, .f32⟩
  | .hbm, ⟨22, _⟩ => ⟨S_, .f32⟩
  | .hbm, ⟨23, _⟩ => ⟨S24576x1, .f32⟩
  | .hbm, ⟨24, _⟩ => ⟨S24576x1, .f32⟩
  | .hbm, ⟨25, _⟩ => ⟨S24576x1, .f32⟩
  | .hbm, ⟨26, _⟩ => ⟨S24576x1024, .f32⟩
  | .hbm, ⟨27, _⟩ => ⟨S24576x1024, .f32⟩
  | .hbm, ⟨28, _⟩ => ⟨S1x1024, .f32⟩
  | .hbm, ⟨29, _⟩ => ⟨S24576x1024, .f32⟩
  | .hbm, ⟨30, _⟩ => ⟨S24576x1024, .f32⟩
  | .hbm, ⟨31, _⟩ => ⟨S_, .f32⟩
  | .hbm, ⟨32, _⟩ => ⟨S24576x1024, .f32⟩
  | .hbm, ⟨33, _⟩ => ⟨S24576x1024, .f32⟩
  | .hbm, ⟨34, _⟩ => ⟨S24576x1024, .f32⟩
  | .hbm, ⟨35, _⟩ => ⟨S24576x1024, .f32⟩
  | .hbm, ⟨36, _⟩ => ⟨S24576x7552, .f32⟩
  | .hbm, ⟨37, _⟩ => ⟨S24576x3456, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel4.lean ====
abbrev S24576x1024 : Shape := ⟨2, ![24576, 1024]⟩
abbrev S5x6x1024 : Shape := ⟨3, ![5, 6, 1024]⟩
abbrev S1024 : Shape := ⟨1, ![1024]⟩
abbrev S1024x7552 : Shape := ⟨2, ![1024, 7552]⟩
abbrev S1x1024 : Shape := ⟨2, ![1, 1024]⟩
abbrev S1024x4096 : Shape := ⟨2, ![1024, 4096]⟩
abbrev S24576x4096 : Shape := ⟨2, ![24576, 4096]⟩
abbrev S2048x1024 : Shape := ⟨2, ![2048, 1024]⟩
abbrev S1x6x1024 : Shape := ⟨3, ![1, 6, 1024]⟩
abbrev S1024x1024 : Shape := ⟨2, ![1024, 1024]⟩
abbrev S6x1024 : Shape := ⟨2, ![6, 1024]⟩
abbrev S2048 : Shape := ⟨1, ![2048]⟩
abbrev S2048x1 : Shape := ⟨2, ![2048, 1]⟩

abbrev nBuf : Space → Nat
  | .hbm => 8
  | .vmem => 10
  | .smem => 0
  | _ => 0

abbrev bufTy : (tb : Table) → Fin (tcTables nBuf tb) → BufTy
  | .hbm, ⟨0, _⟩ => ⟨S24576x1024, .f32⟩
  | .hbm, ⟨1, _⟩ => ⟨S5x6x1024, .f32⟩
  | .hbm, ⟨2, _⟩ => ⟨S1024, .f32⟩
  | .hbm, ⟨3, _⟩ => ⟨S1024x7552, .f32⟩
  | .hbm, ⟨4, _⟩ => ⟨S1x1024, .f32⟩
  | .hbm, ⟨5, _⟩ => ⟨S1024x4096, .f32⟩
  | .hbm, ⟨6, _⟩ => ⟨S1024x4096, .bf16⟩
  | .hbm, ⟨7, _⟩ => ⟨S24576x4096, .f32⟩
  | .local _ .vmem, ⟨0, _⟩ => ⟨S2048x1024, .f32⟩
  | .local _ .vmem, ⟨1, _⟩ => ⟨S2048x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .f32⟩
  | .local _ .vmem, ⟨8, _⟩ => ⟨S2048x1024, .f32⟩
  | .local _ .vmem, ⟨9, _⟩ => ⟨S2048x1024, .bf16⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S24576x1024 : Shape := ⟨2, ![24576, 1024]⟩
abbrev S5x6x1024 : Shape := ⟨3, ![5, 6, 1024]⟩
abbrev S1024 : Shape := ⟨1, ![1024]⟩
abbrev S1024x7552 : Shape := ⟨2, ![1024, 7552]⟩
abbrev S1x6x1024 : Shape := ⟨3, ![1, 6, 1024]⟩
abbrev S8192x6x1024 : Shape := ⟨3, ![8192, 6, 1024]⟩
abbrev S4x6x1024 : Shape := ⟨3, ![4, 6, 1024]⟩
abbrev S4x1x6x1024 : Shape := ⟨4, ![4, 1, 6, 1024]⟩
abbrev S4x4096x6x1024 : Shape := ⟨4, ![4, 4096, 6, 1024]⟩
abbrev S16384x6x1024 : Shape := ⟨3, ![16384, 6, 1024]⟩
abbrev S24576x6x1024 : Shape := ⟨3, ![24576, 6, 1024]⟩
abbrev S24576x1x1024 : Shape := ⟨3, ![24576, 1, 1024]⟩
abbrev S_ : Shape := ⟨0, ![]⟩
abbrev S24576 : Shape := ⟨1, ![24576]⟩
abbrev S24576x1 : Shape := ⟨2, ![24576, 1]⟩
abbrev S1x1024 : Shape := ⟨2, ![1, 1024]⟩
abbrev S24576x7552 : Shape := ⟨2, ![24576, 7552]⟩
abbrev S24576x4096 : Shape := ⟨2, ![24576, 4096]⟩

abbrev nBuf : Space → Nat
  | .hbm => 38
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S5x6x1024, .f32⟩
  | .hbm, ⟨2, _⟩ => ⟨S1024, .f32⟩
  | .hbm, ⟨3, _⟩ => ⟨S1024x7552, .f32⟩
  | .hbm, ⟨4, _⟩ => ⟨S1x6x1024, .f32⟩
  | .hbm, ⟨5, _⟩ => ⟨S8192x6x1024, .f32⟩
  | .hbm, ⟨6, _⟩ => ⟨S4x6x1024, .f32⟩
  | .hbm, ⟨7, _⟩ => ⟨S4x1x6x1024, .f32⟩
  | .hbm, ⟨8, _⟩ => ⟨S4x4096x6x1024, .f32⟩
  | .hbm, ⟨9, _⟩ => ⟨S16384x6x1024, .f32⟩
  | .hbm, ⟨10, _⟩ => ⟨S24576x6x1024, .f32⟩
  | .hbm, ⟨11, _⟩ => ⟨S24576x1x1024, .f32⟩
  | .hbm, ⟨12, _⟩ => ⟨S24576x1024, .f32⟩
  | .hbm, ⟨13, _⟩ => ⟨S24576x1x1024, .f32⟩
  | .hbm, ⟨14, _⟩ => ⟨S24576x1024, .f32⟩
  | .hbm, ⟨15, _⟩ => ⟨S24576x1024, .f32⟩
  | .hbm, ⟨16, _⟩ => ⟨S_, .f32⟩
  | .hbm, ⟨17, _⟩ => ⟨S24576, .f32⟩
  | .hbm, ⟨18, _⟩ => ⟨S24576x1, .f32⟩
  | .hbm, ⟨19, _⟩ => ⟨S_, .f32⟩
  | .hbm, ⟨20, _⟩ => ⟨S24576x1, .f32⟩
  | .hbm, ⟨21, _⟩ => ⟨S24576x1, .f32⟩
  | .hbm, ⟨22, _⟩ => ⟨S_, .f32⟩
  | .hbm, ⟨23, _⟩ => ⟨S24576x1, .f32⟩
  | .hbm, ⟨24, _⟩ => ⟨S24576x1, .f32⟩
  | .hbm, ⟨25, _⟩ => ⟨S24576x1, .f32⟩
  | .hbm, ⟨26, _⟩ => ⟨S24576x1024, .f32⟩
  | .hbm, ⟨27, _⟩ => ⟨S24576x1024, .f32⟩
  | .hbm, ⟨28, _⟩ => ⟨S1x1024, .f32⟩
  | .hbm, ⟨29, _⟩ => ⟨S24576x1024, .f32⟩
  | .hbm, ⟨30, _⟩ => ⟨S24576x1024, .f32⟩
  | .hbm, ⟨31, _⟩ => ⟨S_, .f32⟩
  | .hbm, ⟨32, _⟩ => ⟨S24576x1024, .f32⟩
  | .hbm, ⟨33, _⟩ => ⟨S24576x1024, .f32⟩
  | .hbm, ⟨34, _⟩ => ⟨S24576x1024, .f32⟩
  | .hbm, ⟨35, _⟩ => ⟨S24576x1024, .f32⟩
  | .hbm, ⟨36, _⟩ => ⟨S24576x7552, .f32⟩
  | .hbm, ⟨37, _⟩ => ⟨S24576x4096, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S2x24576x1024 : Shape := ⟨3, ![2, 24576, 1024]⟩
abbrev S24576x1024 : Shape := ⟨2, ![24576, 1024]⟩
abbrev S36x2x16x64x64 : Shape := ⟨5, ![36, 2, 16, 64, 64]⟩
abbrev S768 : Shape := ⟨1, ![768]⟩
abbrev S384 : Shape := ⟨1, ![384]⟩
abbrev S1x64x1024 : Shape := ⟨3, ![1, 64, 1024]⟩
abbrev S1 : Shape := ⟨1, ![1]⟩
abbrev S64x1024 : Shape := ⟨2, ![64, 1024]⟩
abbrev S1x2x16x64x64 : Shape := ⟨5, ![1, 2, 16, 64, 64]⟩
abbrev S2x16x64x64 : Shape := ⟨4, ![2, 16, 64, 64]⟩
abbrev S64x64 : Shape := ⟨2, ![64, 64]⟩
abbrev S64x128 : Shape := ⟨2, ![64, 128]⟩
abbrev S1x1024 : Shape := ⟨2, ![1, 1024]⟩
abbrev S128x1024 : Shape := ⟨2, ![128, 1024]⟩
abbrev S128x64 : Shape := ⟨2, ![128, 64]⟩
abbrev S128x128 : Shape := ⟨2, ![128, 128]⟩
abbrev S1x1x64x64 : Shape := ⟨4, ![1, 1, 64, 64]⟩
abbrev S1x64 : Shape := ⟨2, ![1, 64]⟩

abbrev nBuf : Space → Nat
  | .hbm => 10
  | .vmem => 33
  | .smem => 3
  | _ => 0

abbrev bufTy : (tb : Table) → Fin (tcTables nBuf tb) → BufTy
  | .hbm, ⟨0, _⟩ => ⟨S2x24576x1024, .f32⟩
  | .hbm, ⟨1, _⟩ => ⟨S2x24576x1024, .f32⟩
  | .hbm, ⟨2, _⟩ => ⟨S2x24576x1024, .f32⟩
  | .hbm, ⟨3, _⟩ => ⟨S24576x1024, .f32⟩
  | .hbm, ⟨4, _⟩ => ⟨S24576x1024, .f32⟩
  | .hbm, ⟨5, _⟩ => ⟨S24576x1024, .f32⟩
  | .hbm, ⟨6, _⟩ => ⟨S36x2x16x64x64, .f32⟩
  | .hbm, ⟨7, _⟩ => ⟨S24576x1024, .f32⟩
  | .hbm, ⟨8, _⟩ => ⟨S24576x1024, .f32⟩
  | .hbm, ⟨9, _⟩ => ⟨S36x2x16x64x64, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S1x2x16x64x64, .f32⟩
  | .local _ .vmem, ⟨25, _⟩ => ⟨S1x2x16x64x64, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S1x2x16x64x64, .f32⟩
  | .local _ .vmem, ⟨31, _⟩ => ⟨S1x2x16x64x64, .f32⟩
  | .local _ .vmem, ⟨32, _⟩ => ⟨S2x16x64x64, .f32⟩
  | .local _ .smem, ⟨0, _⟩ => ⟨S768, .i32⟩
  | .local _ .smem, ⟨1, _⟩ => ⟨S384, .i32⟩
  | .local _ .smem, ⟨2, _⟩ => ⟨S384, .i32⟩
  | _, _ => ⟨S2x24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![384], ![false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let v0 : BitVec 32 := Scalar.addi c0_i32 arg0
  let v1 : Index := Scalar.indexCast v0
  ![v1.toNat]
def k0_off2 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S768) ![v1.toNat] S1.size (k0_off1_inb i 0)) numel1_S1
  let c0_i32_0 : BitVec 32 := 0#32
  let c0_i32_1 : BitVec 32 := 0#32
  let c0_i32_2 : BitVec 32 := 0#32
  ![c0_i32_0.toNat, v2.toNat, c0_i32_1.toNat]

def cc0_transform_1 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S768) ![v1.toNat] S1.size (k0_off1_inb i 0)) numel1_S1
  let c0_i32_0 : BitVec 32 := 0#32
  let c0_i32_1 : BitVec 32 := 0#32
  let c0_i32_2 : BitVec 32 := 0#32
  ![c0_i32_0.toNat, v2.toNat, c0_i32_1.toNat]

def cc0_transform_2 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S768) ![v1.toNat] S1.size (k0_off1_inb i 0)) numel1_S1
  let c0_i32_0 : BitVec 32 := 0#32
  let c0_i32_1 : BitVec 32 := 0#32
  let c0_i32_2 : BitVec 32 := 0#32
  ![c0_i32_0.toNat, v2.toNat, c0_i32_1.toNat]

def cc0_transform_3 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S768) ![v1.toNat] S1.size (k0_off1_inb i 0)) numel1_S1
  let c0_i32_0 : BitVec 32 := 0#32
  let c0_i32_1 : BitVec 32 := 0#32
  ![v2.toNat, c0_i32_0.toNat]

def cc0_transform_4 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S768) ![v1.toNat] S1.size (k0_off1_inb i 0)) numel1_S1
  let c0_i32_0 : BitVec 32 := 0#32
  let c0_i32_1 : BitVec 32 := 0#32
  ![v2.toNat, c0_i32_0.toNat]

def cc0_transform_5 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S768) ![v1.toNat] S1.size (k0_off1_inb i 0)) numel1_S1
  let c0_i32_0 : BitVec 32 := 0#32
  let c0_i32_1 : BitVec 32 := 0#32
  ![v2.toNat, c0_i32_0.toNat]

def cc0_transform_6 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 3 → Nat :=
  let arg0 : BitVec 32 := BitVec.ofNat 32 (i 0).val
  let c384_i32 : BitVec 32 := 384#32
  let v0 : BitVec 32 := Scalar.addi c384_i32 arg0
  let v1 : Index := Scalar.indexCast v0
  let v2 : BitVec 32 := pf.at 0 (Rect.unit (s := S768) ![v1.toNat] S1.size (k0_off1_inb i 1)) numel1_S1
  let c1_i32 : BitVec 32 := 1#32
  let c0_i32 : BitVec 32 := 0#32
  let c0_i32_0 : BitVec 32 := 0#32
  ![c1_i32.toNat, v2.toNat, c0_i32.toNat]

def cc0_transform_7 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 3 → Nat :=
  let arg0 : BitVec 32 := BitVec.ofNat 32 (i 0).val
  let c384_i32 : BitVec 32 := 384#32
  let v0 : BitVec 32 := Scalar.addi c384_i32 arg0
  let v1 : Index := Scalar.indexCast v0
  let v2 : BitVec 32 := pf.at 0 (Rect.unit (s := S768) ![v1.toNat] S1.size (k0_off1_inb i 1)) numel1_S1
  let c1_i32 : BitVec 32 := 1#32
  let c0_i32 : BitVec 32 := 0#32
  let c0_i32_0 : BitVec 32 := 0#32
  ![c1_i32.toNat, v2.toNat, c0_i32.toNat]

def cc0_transform_8 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 3 → Nat :=
  let arg0 : BitVec 32 := BitVec.ofNat 32 (i 0).val
  let c384_i32 : BitVec 32 := 384#32
  let v0 : BitVec 32 := Scalar.addi c384_i32 arg0
  let v1 : Index := Scalar.indexCast v0
  let v2 : BitVec 32 := pf.at 0 (Rect.unit (s := S768) ![v1.toNat] S1.size (k0_off1_inb i 1)) numel1_S1
  let c1_i32 : BitVec 32 := 1#32
  let c0_i32 : BitVec 32 := 0#32
  let c0_i32_0 : BitVec 32 := 0#32
  ![c1_i32.toNat, v2.toNat, c0_i32.toNat]

def cc0_transform_9 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c384_i32 : BitVec 32 := 384#32
  let v0 : BitVec 32 := Scalar.addi c384_i32 arg0
  let v1 : Index := Scalar.indexCast v0
  let v2 : BitVec 32 := pf.at 0 (Rect.unit (s := S768) ![v1.toNat] S1.size (k0_off1_inb i 1)) numel1_S1
  let c0_i32 : BitVec 32 := 0#32
  let c0_i32_0 : BitVec 32 := 0#32
  ![v2.toNat, c0_i32.toNat]

def cc0_transform_10 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c384_i32 : BitVec 32 := 384#32
  let v0 : BitVec 32 := Scalar.addi c384_i32 arg0
  let v1 : Index := Scalar.indexCast v0
  let v2 : BitVec 32 := pf.at 0 (Rect.unit (s := S768) ![v1.toNat] S1.size (k0_off1_inb i 1)) numel1_S1
  let c0_i32 : BitVec 32 := 0#32
  let c0_i32_0 : BitVec 32 := 0#32
  ![v2.toNat, c0_i32.toNat]

def cc0_transform_11 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c384_i32 : BitVec 32 := 384#32
  let v0 : BitVec 32 := Scalar.addi c384_i32 arg0
  let v1 : Index := Scalar.indexCast v0
  let v2 : BitVec 32 := pf.at 0 (Rect.unit (s := S768) ![v1.toNat] S1.size (k0_off1_inb i 1)) numel1_S1
  let c0_i32 : BitVec 32 := 0#32
  let c0_i32_0 : BitVec 32 := 0#32
  ![v2.toNat, c0_i32.toNat]

def cc0_transform_12 (k0_off2_inb : ∀ i : grid0.Coords, ∀ a, (k0_off2 i) a + S1.size a ≤ S384.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 2 (Rect.unit (s := S384) ![v0.toNat] S1.size (k0_off2_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_13 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S768) ![v1.toNat] S1.size (k0_off1_inb i 0)) numel1_S1
  let c0_i32_0 : BitVec 32 := 0#32
  let c0_i32_1 : BitVec 32 := 0#32
  ![v2.toNat, c0_i32_0.toNat]

def cc0_transform_14 (k0_off1_inb : ∀ i : grid0.Coords, ∀ (r : Fin 2), ∀ a, (k0_off1 i (BitVec.ofNat 32 (384 * r.val))) a + S1.size a ≤ S768.size a) (numel1_S1 : S1.numel = 1) (pf : pre0.Contents (Elt F)) (i : grid0.Coords) : Fin 2 → Nat :=
  let arg0 : BitVec 32 := BitVec.ofNat 32 (i 0).val
  let c384_i32 : BitVec 32 := 384#32
  let v0 : BitVec 32 := Scalar.addi c384_i32 arg0
  let v1 : Index := Scalar.indexCast v0
  let v2 : BitVec 32 := pf.at 0 (Rect.unit (s := S768) ![v1.toNat] S1.size (k0_off1_inb i 1)) numel1_S1
  let c0_i32 : BitVec 32 := 0#32
  let c0_i32_0 : BitVec 32 := 0#32
  ![v2.toNat, c0_i32.toNat]

def cc0_transform_15 (k0_off2_inb : ∀ i : grid0.Coords, ∀ a, (k0_off2 i) a + S1.size a ≤ S384.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 2 (Rect.unit (s := S384) ![v0.toNat] S1.size (k0_off2_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x16x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x16x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel6.lean ====
abbrev S24576x1024 : Shape := ⟨2, ![24576, 1024]⟩
abbrev S1024 : Shape := ⟨1, ![1024]⟩
abbrev S1024x1024 : Shape := ⟨2, ![1024, 1024]⟩
abbrev S1024x128 : Shape := ⟨2, ![1024, 128]⟩
abbrev S1x1024 : Shape := ⟨2, ![1, 1024]⟩
abbrev S128x1024 : Shape := ⟨2, ![128, 1024]⟩
abbrev S256x1024 : Shape := ⟨2, ![256, 1024]⟩
abbrev S256x128 : Shape := ⟨2, ![256, 128]⟩

abbrev nBuf : Space → Nat
  | .hbm => 13
  | .vmem => 15
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S24576x1024, .f32⟩
  | .hbm, ⟨3, _⟩ => ⟨S24576x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x128, .bf16⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S128x1024, .bf16⟩
  | .hbm, ⟨12, _⟩ => ⟨S24576x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x128, .bf16⟩
  | .local _ .vmem, ⟨11, _⟩ => ⟨S128x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S24576x1024 : Shape := ⟨2, ![24576, 1024]⟩
abbrev S1024 : Shape := ⟨1, ![1024]⟩
abbrev S1024x1024 : Shape := ⟨2, ![1024, 1024]⟩
abbrev S24576x16x64 : Shape := ⟨3, ![24576, 16, 64]⟩
abbrev S_ : Shape := ⟨0, ![]⟩
abbrev S24576x16 : Shape := ⟨2, ![24576, 16]⟩
abbrev S24576x16x1 : Shape := ⟨3, ![24576, 16, 1]⟩
abbrev S16x64 : Shape := ⟨2, ![16, 64]⟩
abbrev S1x16x64 : Shape := ⟨3, ![1, 16, 64]⟩

abbrev nBuf : Space → Nat
  | .hbm => 44
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24576x1024, .f32⟩
  | .hbm, ⟨2, _⟩ => ⟨S24576x1024, .f32⟩
  | .hbm, ⟨3, _⟩ => ⟨S24576x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S24576x1024, .f32⟩
  | .hbm, ⟨8, _⟩ => ⟨S24576x16x64, .f32⟩
  | .hbm, ⟨9, _⟩ => ⟨S_, .f32⟩
  | .hbm, ⟨10, _⟩ => ⟨S24576x16, .f32⟩
  | .hbm, ⟨11, _⟩ => ⟨S24576x16x1, .f32⟩
  | .hbm, ⟨12, _⟩ => ⟨S_, .f32⟩
  | .hbm, ⟨13, _⟩ => ⟨S24576x16x1, .f32⟩
  | .hbm, ⟨14, _⟩ => ⟨S24576x16x1, .f32⟩
  | .hbm, ⟨15, _⟩ => ⟨S24576x16x64, .f32⟩
  | .hbm, ⟨16, _⟩ => ⟨S24576x16x64, .f32⟩
  | .hbm, ⟨17, _⟩ => ⟨S24576x16x64, .f32⟩
  | .hbm, ⟨18, _⟩ => ⟨S_, .f32⟩
  | .hbm, ⟨19, _⟩ => ⟨S24576x16, .f32⟩
  | .hbm, ⟨20, _⟩ => ⟨S24576x16x1, .f32⟩
  | .hbm, ⟨21, _⟩ => ⟨S_, .f32⟩
  | .hbm, ⟨22, _⟩ => ⟨S24576x16x1, .f32⟩
  | .hbm, ⟨23, _⟩ => ⟨S24576x16x1, .f32⟩
  | .hbm, ⟨24, _⟩ => ⟨S24576x16x64, .f32⟩
  | .hbm, ⟨25, _⟩ => ⟨S24576x16x64, .f32⟩
  | .hbm, ⟨26, _⟩ => ⟨S_, .f32⟩
  | .hbm, ⟨27, _⟩ => ⟨S24576x16x1, .f32⟩
  | .hbm, ⟨28, _⟩ => ⟨S24576x16x1, .f32⟩
  | .hbm, ⟨29, _⟩ => ⟨S24576x16x1, .f32⟩
  | .hbm, ⟨30, _⟩ => ⟨S24576x16x64, .f32⟩
  | .hbm, ⟨31, _⟩ => ⟨S24576x16x64, .f32⟩
  | .hbm, ⟨32, _⟩ => ⟨S16x64, .f32⟩
  | .hbm, ⟨33, _⟩ => ⟨S1x16x64, .f32⟩
  | .hbm, ⟨34, _⟩ => ⟨S24576x16x64, .f32⟩
  | .hbm, ⟨35, _⟩ => ⟨S24576x16x64, .f32⟩
  | .hbm, ⟨36, _⟩ => ⟨S16x64, .f32⟩
  | .hbm, ⟨37, _⟩ => ⟨S1x16x64, .f32⟩
  | .hbm, ⟨38, _⟩ => ⟨S24576x16x64, .f32⟩
  | .hbm, ⟨39, _⟩ => ⟨S24576x16x64, .f32⟩
  | .hbm, ⟨40, _⟩ => ⟨S24576x1024, .f32⟩
  | .hbm, ⟨41, _⟩ => ⟨S24576x1024, .f32⟩
  | .hbm, ⟨42, _⟩ => ⟨S24576x1024, .f32⟩
  | .hbm, ⟨43, _⟩ => ⟨S24576x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.FfnRef.lean ====
/-
  What the reference of the mix and feed-forward call computes.
-/
module

public import proofs.«01_k».proof.Proof.Gen.ReferenceIdeal.Run
public import Idealize.ShloMosaic.Lib.Pointwise
public import Idealize.ShloMosaic.Lib.Pipeline.ValueKit
public import Idealize.ShloMosaic.Lib.Tactic

@[expose] public section

set_option maxRecDepth 16384

noncomputable section

namespace Cert.FfnRef

open Cert.ReferenceIdeal Cert.ReferenceIdeal.Gen Cert.ReferenceIdeal.Value Idealize.ShloMosaic Idealize.ShloMosaic.TcCoe Idealize.SL.Sem

/-- Every token's six modulation rows. -/
def modR (arg4 : FVec Ideal S5x6x1024 .f32) : FVec Ideal S24576x6x1024 .f32 :=
  concatenate S24576x6x1024 0 [⟨S8192x6x1024, (broadcastInDim S8192x6x1024 ![0, 1, 2] bcast_S1x6x1024_S8192x6x1024_0_1_2 (extractStridedSlice S1x6x1024 ![0, 0, 0] arg4 slices_S5x6x1024_S1x6x1024_0_0_0))⟩ , ⟨S16384x6x1024, (shapeCast _ (broadcastInDim S4x4096x6x1024 ![0, 1, 2, 3] bcast_S4x1x6x1024_S4x4096x6x1024_0_1_2_3 (broadcastInDim S4x1x6x1024 ![0, 2, 3] bcast_S4x6x1024_S4x1x6x1024_0_2_3 (extractStridedSlice S4x6x1024 ![1, 0, 0] arg4 slices_S5x6x1024_S4x6x1024_1_0_0))) shapeCasts_S4x4096x6x1024_S16384x6x1024)⟩] concatenates_S8192x6x1024_S16384x6x1024_S24576x6x1024_d0

/-- The residual stream after the gated token mixers. -/
def x1R (T0 : FVec Ideal S24576x6x1024 .f32) (arg0 arg1 arg2 : FVec Ideal S24576x1024 .f32) (arg3 : FVec Ideal S24576x4096 .f32) (arg6 : FVec Ideal S1024x1024 .f32) : FVec Ideal S24576x1024 .f32 :=
  addf arg0 (mulf (shapeCast _ (extractStridedSlice S24576x1x1024 ![0, 2, 0] T0 slices_S24576x6x1024_S24576x1x1024_0_2_0) shapeCasts_S24576x1x1024_S24576x1024) (Host.dotGeneral dot_S24576x1024_S1024x1024_S24576x1024_1_0_0_1_n_n none (addf (mulf (Host.divf (broadcastInDim S24576x1024 ![] bcast_S_S24576x1024 (constant S_ .f32 0x3F800000#32)) (addf (broadcastInDim S24576x1024 ![] bcast_S_S24576x1024 (constant S_ .f32 0x3F800000#32)) (Host.exp (Host.negf (extractStridedSlice S24576x1024 ![0, 2048] arg3 slices_S24576x4096_S24576x1024_0_2048))))) arg1) (mulf (Host.divf (broadcastInDim S24576x1024 ![] bcast_S_S24576x1024 (constant S_ .f32 0x3F800000#32)) (addf (broadcastInDim S24576x1024 ![] bcast_S_S24576x1024 (constant S_ .f32 0x3F800000#32)) (Host.exp (Host.negf (extractStridedSlice S24576x1024 ![0, 3072] arg3 slices_S24576x4096_S24576x1024_0_3072))))) arg2)) arg6))

/-- The channel-mixing input: the residual normalised, scaled and shifted. -/
def h2R (T0 : FVec Ideal S24576x6x1024 .f32) (T1 : FVec Ideal S24576x1024 .f32) (arg5 : FVec Ideal S1024 .f32) : FVec Ideal S24576x1024 .f32 :=
  addf (mulf (mulf (mulf T1 (broadcastInDim S24576x1024 ![0, 1] bcast_S24576x1_S24576x1024_0_1 (Host.rsqrt (addf (Host.divf (broadcastInDim S24576x1 ![0] bcast_S24576_S24576x1_0 (Host.reduceAdd (mulf T1 T1) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32)))))) (broadcastInDim S24576x1024 ![0, 1] bcast_S1x1024_S24576x1024_0_1 (broadcastInDim S1x1024 ![1] bcast_S1024_S1x1024_1 arg5))) (addf (broadcastInDim S24576x1024 ![] bcast_S_S24576x1024 (constant S_ .f32 0x3F800000#32)) (shapeCast _ (extractStridedSlice S24576x1x1024 ![0, 4, 0] T0 slices_S24576x6x1024_S24576x1x1024_0_4_0) shapeCasts_S24576x1x1024_S24576x1024))) (shapeCast _ (extractStridedSlice S24576x1x1024 ![0, 3, 0] T0 slices_S24576x6x1024_S24576x1x1024_0_3_0) shapeCasts_S24576x1x1024_S24576x1024)

/-- The hidden layer before squaring. -/
def hidR (H : FVec Ideal S24576x1024 .f32) (arg7 : FVec Ideal S1024x4096 .f32) : FVec Ideal S24576x4096 .f32 :=
  maximumf (Host.dotGeneral dot_S24576x1024_S1024x4096_S24576x4096_1_0_0_1_n_n none H arg7) (broadcastInDim S24576x4096 ![] bcast_S_S24576x4096 (constant S_ .f32 0x00000000#32))

/-- The residual stream after the feed-forward layer: result 0. -/
def x2R (T0 : FVec Ideal S24576x6x1024 .f32) (T1 : FVec Ideal S24576x1024 .f32) (T2 : FVec Ideal S24576x4096 .f32) (arg8 : FVec Ideal S4096x1024 .f32) : FVec Ideal S24576x1024 .f32 :=
  addf T1 (mulf (shapeCast _ (extractStridedSlice S24576x1x1024 ![0, 5, 0] T0 slices_S24576x6x1024_S24576x1x1024_0_5_0) shapeCasts_S24576x1x1024_S24576x1024) (Host.dotGeneral dot_S24576x4096_S4096x1024_S24576x1024_1_0_0_1_n_n none (mulf T2 T2) arg8))

/-- Its final normalisation: result 1. -/
def outR (T3 : FVec Ideal S24576x1024 .f32) (arg9 : FVec Ideal S1024 .f32) : FVec Ideal S24576x1024 .f32 :=
  mulf (mulf T3 (broadcastInDim S24576x1024 ![0, 1] bcast_S24576x1_S24576x1024_0_1 (Host.rsqrt (addf (Host.divf (broadcastInDim S24576x1 ![0] bcast_S24576_S24576x1_0 (Host.reduceAdd (mulf T3 T3) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32)))))) (broadcastInDim S24576x1024 ![0, 1] bcast_S1x1024_S24576x1024_0_1 (broadcastInDim S1x1024 ![1] bcast_S1024_S1x1024_1 arg9))

theorem res0 (m : (ℓ : Loc nD τ sig) → Buf (Elt Ideal) ℓ) (c : Dev nD) :
    res_main_v57 m c = x2R (modR (m ((c.tc : Thread nD τ).loc main_arg4)))
      (x1R (modR (m ((c.tc : Thread nD τ).loc main_arg4))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      (hidR (h2R (modR (m ((c.tc : Thread nD τ).loc main_arg4)))
        (x1R (modR (m ((c.tc : Thread nD τ).loc main_arg4))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
        (m ((c.tc : Thread nD τ).loc main_arg5))) (m ((c.tc : Thread nD τ).loc main_arg7)))
      (m ((c.tc : Thread nD τ).loc main_arg8)) := rfl

theorem res1 (m : (ℓ : Loc nD τ sig) → Buf (Elt Ideal) ℓ) (c : Dev nD) :
    res_main_v70 m c = outR (res_main_v57 m c) (m ((c.tc : Thread nD τ).loc main_arg9)) := rfl

end Cert.FfnRef
end
-- ==== Proof.FfnKer.lean ====
/-
  What the mix and feed-forward call leaves in its two results: the same as its reference, block by block.
-/
module

public import proofs.«01_k».proof.Proof.FfnRef
public import proofs.«01_k».proof.Proof.Gen.KernelIdeal.Value

@[expose] public section

set_option maxRecDepth 16384

noncomputable section

namespace Cert.FfnKer

open Cert.KernelIdeal Cert.KernelIdeal.Gen Idealize.ShloMosaic Idealize.ShloMosaic.TcCoe Idealize.SL.Sem
open Idealize.ShloMosaic.Pipeline (Dat)
open Cert.FfnRef

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 3]
    ∧ win0_5.index t = ![if t.val < 32 then 0 else 1 + (t.val - 32) / 16, 0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] ∧ win0_12.index t = ![t.val, 0] :=
  (by decide +kernel : ∀ t : Fin grid0.N, _)

abbrev A0 : FVec Ideal S24576x1024 .f32 := m ((c.tc : Thread nD τ).loc main_arg0)
abbrev A1 : FVec Ideal S24576x1024 .f32 := m ((c.tc : Thread nD τ).loc main_arg1)
abbrev A2 : FVec Ideal S24576x1024 .f32 := m ((c.tc : Thread nD τ).loc main_arg2)
abbrev A3 : FVec Ideal S24576x4096 .f32 := m ((c.tc : Thread nD τ).loc main_arg3)
abbrev A4 : FVec Ideal S5x6x1024 .f32 := m ((c.tc : Thread nD τ).loc main_arg4)
abbrev A5 : FVec Ideal S1024 .f32 := m ((c.tc : Thread nD τ).loc main_arg5)
abbrev A6 : FVec Ideal S1024x1024 .f32 := m ((c.tc : Thread nD τ).loc main_arg6)
abbrev A7 : FVec Ideal S1024x4096 .f32 := m ((c.tc : Thread nD τ).loc main_arg7)
abbrev A8 : FVec Ideal S4096x1024 .f32 := m ((c.tc : Thread nD τ).loc main_arg8)
abbrev A9 : FVec Ideal S1024 .f32 := m ((c.tc : Thread nD τ).loc main_arg9)

abbrev T1 := x1R (modR (A4 m c)) (A0 m c) (A1 m c) (A2 m c) (A3 m c) (A6 m c)
abbrev T2 := h2R (modR (A4 m c)) (T1 m c) (A5 m c)
abbrev T3 := x2R (modR (A4 m c)) (T1 m c) (hidR (T2 m c) (A7 m c)) (A8 m c)

/-- The array row of row `r` of block `t`. -/
abbrev tok (t : Fin cfg0.N) (r : Fin 256) : Fin 24576 := ⟨256 * t.val + r.val, by have := t.isLt; have h : cfg0.N = 96 := rfl; omega⟩

theorem x1_at (t : Fin cfg0.N) (r : Fin 256) (d : Fin 1024) :
    k0_pay14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r d) = T1 m c (ix2 (tok t r) d) := by
  pointwise [k0_pay14, k0_pay4, k0_pay3, T1, x1R, modR]
  simp only [Ideal.logistic]
  blk_point [iblk, V, idx t]
  all_goals (split <;> omega)

/-- What the body computes of the residual stream at point `t`, as a whole block. -/
theorem x1_eq (t : Fin cfg0.N) :
    k0_pay14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) = fun y => T1 m c (ix2 (tok t (y 0)) (y 1)) := by
  funext y
  idx_vars y
  exact x1_at m c t _ _

theorem h2_at (t : Fin cfg0.N) (r : Fin 256) (d : Fin 1024) :
    k0_pay20 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r d) = T2 m c (ix2 (tok t r) d) := by
  have h := x1_eq m c t
  unfold k0_pay14 at h
  unfold k0_pay20 k0_pay17 k0_pay7
  rw [h]
  unfold T2
  generalize T1 m c = X
  pointwise [k0_pay9, k0_pay15, k0_pay16, k0_pay18, k0_pay5, k0_pay6, k0_pay8, k0_pay3, h2R, modR]
  blk_point [iblk, V, idx t]
  all_goals (split <;> omega)

/-- What the body computes of the channel-mixing input at point `t`, as a whole block. -/
theorem h2_eq (t : Fin cfg0.N) :
    k0_pay20 (iblk m c 0 t) (iblk m c 1 t) (iblk m c 2 t) (iblk m c 3 t) (iblk m c 4 t) (iblk m c 5 t) (iblk m c 6 t)
        (iblk m c 7 t) (iblk m c 8 t) (iblk m c 9 t) (iblk m c 10 t) = fun y => T2 m c (ix2 (tok t (y 0)) (y 1)) := by
  funext y
  idx_vars y
  exact h2_at m c t _ _

/-- A sum over the 4096 hidden units, as the four tiles of 1024 the kernel adds one after another. -/
theorem sum_tiles (f : Fin 4096 → EReal) : ∑ k, f k
    = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  refine (Fin.sum_univ_add (M := EReal) (a := 3072) (b := 1024) f).trans (congrArg₂ (· + ·) ?_ rfl)
  refine (Fin.sum_univ_add (M := EReal) (a := 2048) (b := 1024) fun k => f ⟨k.val, by omega⟩).trans (congrArg₂ (· + ·) ?_ rfl)
  exact (Fin.sum_univ_add (M := EReal) (a := 1024) (b := 1024) fun k => f ⟨k.val, by omega⟩)

theorem x2_at (t : Fin cfg0.N) (r : Fin 256) (d : Fin 1024) :
    k0_pay1
      (k0_pay13 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay14 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay20 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay21 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay22 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay23 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay19 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (View.ld (iblk m c 8 t) r0_10) (View.ld (iblk m c 9 t) r0_11) (ix2 r d) = T3 m c (ix2 (tok t r) d) := by
  have h := h2_eq m c t
  rw [h, x1_eq m c t]
  unfold k0_pay20 at h
  unfold k0_pay21 k0_pay10 k0_pay22 k0_pay11
  rw [h]
  unfold T3
  generalize T2 m c = H
  generalize T1 m c = X
  pointwise [k0_pay1, k0_pay13, k0_pay23, k0_pay12, k0_pay19, k0_pay3, x2R, hidR, modR]
  rw [sum_tiles]
  blk_point [iblk, V, idx t]
  all_goals (split <;> omega)

/-- What the body leaves of the residual stream at point `t`, as a whole block. -/
theorem x2_eq (t : Fin cfg0.N) :
    k0_pay1
      (k0_pay13 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay14 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay20 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay21 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay22 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay23 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (k0_pay19 (iblk m c 0 t) (iblk m c 1 t) (iblk m c 2 t) (iblk m c 3 t) (iblk m c 4 t) (iblk m c 5 t) (iblk m c 6 t)
        (iblk m c 7 t) (iblk m c 8 t) (iblk m c 9 t) (iblk m c 10 t))
      (View.ld (iblk m c 8 t) r0_10) (View.ld (iblk m c 9 t) r0_11) = fun y => T3 m c (ix2 (tok t (y 0)) (y 1)) := by
  funext y
  idx_vars y
  exact x2_at m c t _ _

/-- Result 0 of the kernel: the residual stream after the feed-forward layer. -/
theorem final11 : (dats m 0 c).arrAt 11 (cfgs 0).N = T3 m c := by
  refine (dats m 0 c).arrAt_eq_of_covers 11 _ (by decide +kernel) fun t _ y => ?_
  blk_simp
  rw [after0_11]
  frame_out
  refine (congrFun (x2_eq m c t) y).trans ?_
  generalize T3 m c = X
  blk_ext [idx t]

/-- The final normalisation of a block `X`. -/
theorem pay2_eq (v1 : FVec Ideal S6x1024 .f32) (v19 : FVec Ideal S256x1024 .f32) (v42 : FVec Ideal S256x1024 .bf16)
    (v65 : FVec Ideal S256x1024 .f32) (v72 : FVec Ideal S256x1024 .bf16) (v74 : FVec Ideal S1024x1024 .bf16)
    (z : FVec Ideal S256x1024 .f32) (v77 v84 : Vec Ideal S1024x1024 .bf16) (b : Vec Ideal S1x1024 .f32)
    (X : FVec Ideal S256x1024 .f32) (h : k0_pay1 v1 v19 v42 v65 v72 v74 z v77 v84 = X) :
    k0_pay2 v1 v19 v42 v65 v72 v74 z v77 v84 b = fun y => X y * Ideal.rsqrt
      (Ideal.div (∑ k, X (ix2 (y 0) k) * X (ix2 (y 0) k)) (Ideal.ofBits FTy.f32 1149239296#32) + Ideal.ofBits FTy.f32 897988541#32)
      * b (ix2 0 (y 1)) := by
  subst h
  funext y
  idx_vars y
  pointwise [k0_pay2]

/-- Result 1 of the kernel: its final normalisation. -/
theorem final12 : (dats m 0 c).arrAt 12 (cfgs 0).N = outR (T3 m c) (A9 m c) := by
  refine (dats m 0 c).arrAt_eq_of_covers 12 _ (by decide +kernel) fun t _ y => ?_
  blk_simp
  rw [after0_12]
  frame_out
  refine (congrFun (pay2_eq _ _ _ _ _ _ _ _ _ _ _ (x2_eq m c t)) y).trans ?_
  generalize T3 m c = X
  pointwise [outR]
  blk_point [iblk, V, idx t]

end Cert.FfnKer
end
-- ==== Proof.FfnClaim.lean ====
/-
  The claims about the mix and feed-forward call.
-/
module

public import proofs.«01_k».proof.Proof.FfnKer
public import proofs.«01_k».proof.Defs

@[expose] public section

set_option maxRecDepth 16384

noncomputable section

namespace Cert.FfnClaim

open Idealize.ShloMosaic Idealize.SL.Sem

/-- The reference's run ends with its arguments unchanged and every counter zero. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The kernel and the reference, run from equal arguments, end with equal results. -/
theorem algebraic : Cert.algebraic_KernelIdeal_ReferenceIdeal := by
  intro m g m' g' _ hh
  refine ⟨fun c => FfnKer.T3 m c, fun c => FfnRef.outR (FfnKer.T3 m c) (FfnKer.A9 m c), ?_, ?_⟩
  · refine (θ_run Cert.KernelIdeal.defs _ _).mono (fun r h c => ?_) (Cert.KernelIdeal.Value.run_blocks m g)
    obtain ⟨h0, h1, h2⟩ := h c
    exact ⟨h0.trans (FfnKer.final11 m c), h1.trans (FfnKer.final12 m c), h2⟩
  · refine (θ_run Cert.ReferenceIdeal.defs _ _).mono (fun r h c => ?_) (Cert.ReferenceIdeal.Value.run m' g')
    obtain ⟨h0, h1, h2⟩ := h c
    obtain ⟨a0, a1, a2, a3, a4, a5, a6, a7, a8, a9⟩ := hh c
    have e0 : Cert.ReferenceIdeal.Value.res_main_v57 m' c = FfnKer.T3 m c := by
      rw [FfnRef.res0, a0, a1, a2, a3, a4, a5, a6, a7, a8]
    exact ⟨h0.trans e0, h1.trans (by rw [FfnRef.res1, e0, a9]), h2⟩

end Cert.FfnClaim
end
-- ==== Proof.CmlpRef.lean ====
/-
  What the reference of the chunk MLP computes.
-/
module

public import proofs.«01_k».proof.Proof.Gen.Reference2Ideal.Run
public import Idealize.ShloMosaic.Lib.Pointwise
public import Idealize.ShloMosaic.Lib.Pipeline.ValueKit
public import Idealize.ShloMosaic.Lib.Tactic

@[expose] public section

set_option maxRecDepth 16384

noncomputable section

namespace Cert.CmlpRef

open Cert.Reference2Ideal Cert.Reference2Ideal.Gen Cert.Reference2Ideal.Value Idealize.ShloMosaic Idealize.ShloMosaic.TcCoe Idealize.SL.Sem

/-- The gate's half of the projected row. -/
def zuR (arg0 : FVec Ideal S24576x4096 .f32) : FVec Ideal S24576x1024 .f32 :=
  extractStridedSlice S24576x1024 ![0, 0] arg0 slices_S24576x4096_S24576x1024_0_0

/-- The gated half of the projected row. -/
def zvR (arg0 : FVec Ideal S24576x4096 .f32) : FVec Ideal S24576x1024 .f32 :=
  extractStridedSlice S24576x1024 ![0, 1024] arg0 slices_S24576x4096_S24576x1024_0_1024

/-- The tanh form of the Gaussian error unit. -/
def geluR (X : FVec Ideal S24576x1024 .f32) : FVec Ideal S24576x1024 .f32 :=
  mulf X (mulf (broadcastInDim S24576x1024 ![] bcast_S_S24576x1024 (constant S_ .f32 0x3F000000#32)) (addf (broadcastInDim S24576x1024 ![] bcast_S_S24576x1024 (constant S_ .f32 0x3F800000#32)) (Host.tanh (mulf (broadcastInDim S24576x1024 ![] bcast_S_S24576x1024 (constant S_ .f32 0x3F4C422A#32)) (addf X (mulf (broadcastInDim S24576x1024 ![] bcast_S_S24576x1024 (constant S_ .f32 0x3D372713#32)) (mulf (mulf X X) X)))))))

/-- A row less its mean. -/
def cenR (X : FVec Ideal S24576x1024 .f32) : FVec Ideal S24576x1024 .f32 :=
  subf X (broadcastInDim S24576x1024 ![0, 1] bcast_S24576x1_S24576x1024_0_1 (Host.divf (broadcastInDim S24576x1 ![0] bcast_S24576_S24576x1_0 (Host.reduceAdd X (constant S_ .f32 0x00000000#32) reducesTo_S24576x1024_S24576_d1 h_S_)) (broadcastInDim S24576x1 ![] bcast_S_S24576x1 (constant S_ .f32 0x44800000#32))))

/-- The normalised row. -/
def lnR (T2 : FVec Ideal S24576x1024 .f32) (arg1 : FVec Ideal S1024 .f32) : FVec Ideal S24576x1024 .f32 :=
  mulf (mulf T2 (broadcastInDim S24576x1024 ![0, 1] bcast_S24576x1_S24576x1024_0_1 (Host.rsqrt (addf (Host.divf (broadcastInDim S24576x1 ![0] bcast_S24576_S24576x1_0 (Host.reduceAdd (mulf T2 T2) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32)))))) (broadcastInDim S24576x1024 ![0, 1] bcast_S1x1024_S24576x1024_0_1 (broadcastInDim S1x1024 ![1] bcast_S1024_S1x1024_1 arg1))

/-- The spatial gate: each chunk mixed over its positions head by head, and the other half times it. -/
def sgR (U L : FVec Ideal S24576x1024 .f32) (arg2 : FVec Ideal S8x128x128 .f32) (arg3 : FVec Ideal S8x128 .f32) : FVec Ideal S24576x1024 .f32 :=
  mulf U (shapeCast _ (addf (transpose S192x128x8x128 [1, 3, 0, 2] (Host.dotGeneral dot_S192x128x8x128_S8x128x128_S8x192x128x128_1_2_03_1_2_0 none (shapeCast _ L shapeCasts_S24576x1024_S192x128x8x128) arg2) transposes_S8x192x128x128_S192x128x8x128_1_3_0_2) (broadcastInDim S192x128x8x128 ![0, 1, 2, 3] bcast_S1x128x8x1_S192x128x8x128_0_1_2_3 (broadcastInDim S1x128x8x1 ![1, 2, 3] bcast_S128x8x1_S1x128x8x1_1_2_3 (broadcastInDim S128x8x1 ![0, 1] bcast_S128x8_S128x8x1_0_1 (transpose S128x8 [1, 0] arg3 transposes_S8x128_S128x8_1_0))))) shapeCasts_S192x128x8x128_S24576x1024)

/-- The branch's projection. -/
def outR (Y : FVec Ideal S24576x1024 .f32) (arg4 : FVec Ideal S1024x1024 .f32) : FVec Ideal S24576x1024 .f32 :=
  Host.dotGeneral dot_S24576x1024_S1024x1024_S24576x1024_1_0_0_1_n_n none Y arg4

theorem res0 (m : (ℓ : Loc nD τ sig) → Buf (Elt Ideal) ℓ) (c : Dev nD) :
    res_main_v59 m c = outR (sgR (geluR (zuR (m ((c.tc : Thread nD τ).loc main_arg0)))) (lnR (cenR (geluR (zvR (m ((c.tc : Thread nD τ).loc main_arg0))))) (m ((c.tc : Thread nD τ).loc main_arg1))) (m ((c.tc : Thread nD τ).loc main_arg2)) (m ((c.tc : Thread nD τ).loc main_arg3))) (m ((c.tc : Thread nD τ).loc main_arg4)) := rfl

/-- The spatial gate at position `p` of chunk `n`, channel `q` of head `h`. -/
theorem sgR_at (U L : FVec Ideal S24576x1024 .f32) (w : FVec Ideal S8x128x128 .f32) (b : FVec Ideal S8x128 .f32)
    (n : Fin 192) (p : Fin 128) (h : Fin 8) (q : Fin 128) :
    sgR U L w b (ix2 (⟨128 * n.val + p.val, by omega⟩ : Fin 24576) (⟨128 * h.val + q.val, by omega⟩ : Fin 1024))
      = U (ix2 (⟨128 * n.val + p.val, by omega⟩ : Fin 24576) (⟨128 * h.val + q.val, by omega⟩ : Fin 1024))
        * (∑ k : Fin 128, L (ix2 (⟨128 * n.val + k.val, by omega⟩ : Fin 24576) (⟨128 * h.val + q.val, by omega⟩ : Fin 1024)) * w (ix3 h p k)
          + b (ix2 h p)) := by
  pointwise [sgR]
  blk_point []

end Cert.CmlpRef
end
-- ==== Proof.CmlpKer.lean ====
/-
  What the chunk MLP's call leaves in its result: the gated array, put together piece by piece in a scratch, and its product.
-/
module

public import proofs.«01_k».proof.Proof.Gen.Kernel2Ideal.Value
public import proofs.«01_k».proof.Proof.CmlpRef
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.CmlpKer

open Cert.CmlpRef
open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 1] ∧ win0_2.index t = ![0, 0]
    ∧ win0_3.index t = ![0, 0, 0] ∧ win0_4.index t = ![0, 0] ∧ win0_5.index t = ![0, 0] ∧ win0_6.index t = ![t.val, 0] :=
  (by decide +kernel : ∀ t : Fin grid0.N, _)

abbrev A0 : FVec Ideal S24576x4096 .f32 := m ((c.tc : Thread nD τ).loc main_arg0)
abbrev A1 : FVec Ideal S1024 .f32 := m ((c.tc : Thread nD τ).loc main_arg1)
abbrev A2 : FVec Ideal S8x128x128 .f32 := m ((c.tc : Thread nD τ).loc main_arg2)
abbrev A3 : FVec Ideal S8x128 .f32 := m ((c.tc : Thread nD τ).loc main_arg3)
abbrev A4 : FVec Ideal S1024x1024 .f32 := m ((c.tc : Thread nD τ).loc main_arg4)

abbrev U := geluR (zuR (A0 m c))
abbrev L := lnR (cenR (geluR (zvR (A0 m c)))) (A1 m c)
abbrev Y := sgR (U m c) (L m c) (A2 m c) (A3 m c)

/-- The array row of row `r` of block `t`. -/
abbrev tok (t : Fin cfg0.N) (r : Fin 256) : Fin 24576 := ⟨256 * t.val + r.val, by have := t.isLt; have h : cfg0.N = 96 := rfl; omega⟩

theorem u_eq (t : Fin cfg0.N) :
    k0_pay5 (iblk m c 0 t) (k0_pay3 (iblk m c 0 t)) k0_pay4 = fun y => U m c (ix2 (tok t (y 0)) (y 1)) := by
  funext y
  idx_vars y
  pointwise [k0_pay5, k0_pay3, k0_pay4, U, geluR, zuR]
  blk_point [iblk, V, idx t]

theorem v_eq (t : Fin cfg0.N) :
    k0_pay2 (iblk m c 1 t) (iblk m c 2 t) = fun y => L m c (ix2 (tok t (y 0)) (y 1)) := by
  funext y
  idx_vars y
  pointwise [k0_pay2, L, lnR, cenR, geluR, zvR]
  blk_point [iblk, V, idx t]

/-- The spatial gate at row `r` of block `t`. -/
theorem Y_at (t : Fin cfg0.N) (r : Fin 256) (d : Fin 1024) :
    Y m c (ix2 (tok t r) d) = U m c (ix2 (tok t r) d)
      * (∑ k : Fin 128, A2 m c (ix3 (⟨d.val / 128, by omega⟩ : Fin 8) (⟨r.val % 128, by omega⟩ : Fin 128) k)
          * L m c (ix2 (tok t ⟨128 * (r.val / 128) + k.val, by omega⟩) d)
        + A3 m c (ix2 (⟨d.val / 128, by omega⟩ : Fin 8) (⟨r.val % 128, by omega⟩ : Fin 128))) := by
  have ht : t.val < 96 := t.isLt
  have h := sgR_at (U m c) (L m c) (A2 m c) (A3 m c) ⟨2 * t.val + r.val / 128, by omega⟩ ⟨r.val % 128, by omega⟩
    ⟨d.val / 128, by omega⟩ ⟨d.val % 128, by omega⟩
  have e1 : (⟨128 * (2 * t.val + r.val / 128) + r.val % 128, by omega⟩ : Fin 24576) = tok t r := Fin.ext (by simp only [tok]; omega)
  have e2 : (⟨128 * (d.val / 128) + d.val % 128, by omega⟩ : Fin 1024) = d := Fin.ext (by simp only []; omega)
  simp only [e1, e2] at h
  refine h.trans (congrArg (fun s => U m c (ix2 (tok t r) d) * (s + _)) (Finset.sum_congr rfl fun k _ => ?_))
  rw [mul_comm]
  refine congrArg (fun i => A2 m c (ix3 (⟨d.val / 128, by omega⟩ : Fin 8) (⟨r.val % 128, by omega⟩ : Fin 128) k) * L m c (ix2 i d)) (Fin.ext ?_)
  simp only [tok]
  omega

theorem final : (dats m 0 c).arrAt 6 (cfgs 0).N = outR (Y m c) (A4 m c) := by
  refine (dats m 0 c).arrAt_eq_of_covers 6 _ (by decide +kernel) fun t _ y => ?_
  blk_simp
  rw [after0_6]
  unfold outsAt0 out0_A_6
  frame_open
  frame_out
  unfold k0_pay6 k0_pay7
  rw [View.readCov_eq_canon', u_eq, v_eq]
  refine (congrFun (congrArg (fun s => k0_pay1 s (iblk m c 5 t)) (?_ : _ = (fun z => Y m c (ix2 (tok t (z 0)) (z 1)) : FVec Ideal S256x1024 .bf16))) y).trans ?_
  · funext z
    idx_vars z
    refine Eq.trans ?_ (Y_at m c t _ _).symm
    generalize U m c = U
    generalize L m c = L
    refine (congrArg (View.canon _) (?_ : _ = (ix2 z0 z1 : S256x1024.Idx))).trans ?_
    · funext a
      fin_cases a <;> exact Fin.ext (by simp [LoadRect.idx, Rect.unit, Rect.toLoadRect])
    canon_tiles x h
    all_goals
      change (z0 : ℕ) = _ at h0
      change (z1 : ℕ) = _ at h1
      open_payloads
      pointwise
      blk_point [iblk, V, idx t]
  · generalize Y m c = Y
    idx_vars y
    pointwise [k0_pay1, outR]
    blk_point [iblk, V, idx t]

end Cert.CmlpKer
end
-- ==== Proof.CmlpClaim.lean ====
/-
  The claims about the chunk MLP.
-/
module

public import proofs.«01_k».proof.Proof.CmlpKer
public import proofs.«01_k».proof.Defs

@[expose] public section

set_option maxRecDepth 16384

noncomputable section

namespace Cert.CmlpClaim

open Idealize.ShloMosaic Idealize.SL.Sem

/-- The reference's run ends with its arguments unchanged and every counter zero. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The kernel and the reference, run from equal arguments, end with equal results. -/
theorem algebraic : Cert.algebraic_Kernel2Ideal_Reference2Ideal := by
  intro m g m' g' _ hh
  refine ⟨fun c => CmlpRef.outR (CmlpKer.Y m c) (CmlpKer.A4 m c), ?_, ?_⟩
  · refine (θ_run Cert.Kernel2Ideal.defs _ _).mono (fun r h c => ?_) (Cert.Kernel2Ideal.Value.run_blocks m g)
    obtain ⟨h0, h2⟩ := h c
    exact ⟨h0.trans (CmlpKer.final m c), h2⟩
  · refine (θ_run Cert.Reference2Ideal.defs _ _).mono (fun r h c => ?_) (Cert.Reference2Ideal.Value.run m' g')
    obtain ⟨h0, h2⟩ := h c
    obtain ⟨a0, a1, a2, a3, a4⟩ := hh c
    exact ⟨h0.trans (by rw [CmlpRef.res0, a0, a1, a2, a3, a4]), h2⟩

end Cert.CmlpClaim
end
-- ==== Proof.InpARef.lean ====
/-
  What the reference of the input projection computes: the columns of the recurrence's branch.
-/
module

public import proofs.«01_k».proof.Proof.Gen.Reference3Ideal.Run
public import Idealize.ShloMosaic.Lib.Pointwise
public import Idealize.ShloMosaic.Lib.Pipeline.ValueKit
public import Idealize.ShloMosaic.Lib.Tactic

@[expose] public section

set_option maxRecDepth 16384

noncomputable section

namespace Cert.InpARef

open Cert.Reference3Ideal Cert.Reference3Ideal.Gen Idealize.ShloMosaic Idealize.ShloMosaic.TcCoe Idealize.SL.Sem

/-- Every token's six modulation rows. -/
def modR (arg1 : FVec Ideal S5x6x1024 .f32) : FVec Ideal S24576x6x1024 .f32 :=
  concatenate S24576x6x1024 0 [⟨S8192x6x1024, (broadcastInDim S8192x6x1024 ![0, 1, 2] bcast_S1x6x1024_S8192x6x1024_0_1_2 (extractStridedSlice S1x6x1024 ![0, 0, 0] arg1 slices_S5x6x1024_S1x6x1024_0_0_0))⟩, ⟨S16384x6x1024, (shapeCast _ (broadcastInDim S4x4096x6x1024 ![0, 1, 2, 3] bcast_S4x1x6x1024_S4x4096x6x1024_0_1_2_3 (broadcastInDim S4x1x6x1024 ![0, 2, 3] bcast_S4x6x1024_S4x1x6x1024_0_2_3 (extractStridedSlice S4x6x1024 ![1, 0, 0] arg1 slices_S5x6x1024_S4x6x1024_1_0_0))) shapeCasts_S4x4096x6x1024_S16384x6x1024)⟩] concatenates_S8192x6x1024_S16384x6x1024_S24576x6x1024_d0

/-- The layer's input: normalised, scaled and shifted. -/
def hR (T : FVec Ideal S24576x6x1024 .f32) (arg0 : FVec Ideal S24576x1024 .f32) (arg2 : FVec Ideal S1024 .f32) : FVec Ideal S24576x1024 .f32 :=
  addf (mulf (mulf (mulf arg0 (broadcastInDim S24576x1024 ![0, 1] bcast_S24576x1_S24576x1024_0_1 (Host.rsqrt (addf (Host.divf (broadcastInDim S24576x1 ![0] bcast_S24576_S24576x1_0 (Host.reduceAdd (mulf arg0 arg0) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32)))))) (broadcastInDim S24576x1024 ![0, 1] bcast_S1x1024_S24576x1024_0_1 (broadcastInDim S1x1024 ![1] bcast_S1024_S1x1024_1 arg2))) (addf (broadcastInDim S24576x1024 ![] bcast_S_S24576x1024 (constant S_ .f32 0x3F800000#32)) (shapeCast _ (extractStridedSlice S24576x1x1024 ![0, 1, 0] T slices_S24576x6x1024_S24576x1x1024_0_1_0) shapeCasts_S24576x1x1024_S24576x1024))) (shapeCast _ (extractStridedSlice S24576x1x1024 ![0, 0, 0] T slices_S24576x6x1024_S24576x1x1024_0_0_0) shapeCasts_S24576x1x1024_S24576x1024)

/-- Its projection by the whole weight, and of that the call's columns. -/
def outR (H : FVec Ideal S24576x1024 .f32) (arg3 : FVec Ideal S1024x7552 .f32) : FVec Ideal S24576x3456 .f32 :=
  extractStridedSlice S24576x3456 ![0, 0] (Host.dotGeneral dot_S24576x1024_S1024x7552_S24576x7552_1_0_0_1_n_n none H arg3) slices_S24576x7552_S24576x3456_0_0

/-- What the reference's run leaves: its result, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = outR (hR (modR (m ((c.tc : Thread nD τ).loc main_arg1))) (m ((c.tc : Thread nD τ).loc main_arg0)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference3Ideal.Value.run m ρ

end Cert.InpARef
end
-- ==== Proof.InpAKer.lean ====
/-
  What the input projection leaves in its result (the columns of the recurrence's branch).
-/
module

public import proofs.«01_k».proof.Proof.InpARef
public import proofs.«01_k».proof.Proof.Gen.Kernel3Ideal.Value
public import Idealize.ShloMosaic.Lib.Pipeline.ReadBack

@[expose] public section

set_option maxRecDepth 16384

noncomputable section

namespace Cert.InpAKer

open Cert.Kernel3Ideal Cert.Kernel3Ideal.Gen Idealize.ShloMosaic Idealize.ShloMosaic.TcCoe Idealize.SL.Sem
open Idealize.ShloMosaic.Pipeline (Dat)
open Cert.InpARef

variable (m : (ℓ : Loc nD τ sig) → Buf (Elt Ideal) ℓ) (c : Dev nD)

theorem idx : ∀ t : Fin cfg0.N, win0_0.index t = ![t.val / 3, 0]
    ∧ win0_1.index t = ![if t.val / 3 < 4 then 0 else 1 + (t.val / 3 - 4) / 2, 0, 0]
    ∧ win0_2.index t = ![0, 0] ∧ win0_3.index t = ![0, t.val % 3] ∧ win0_4.index t = ![t.val / 3, t.val % 3] :=
  (by decide +kernel : ∀ t : Fin grid0.N, _)

abbrev A0 : FVec Ideal S24576x1024 .f32 := m ((c.tc : Thread nD τ).loc main_arg0)
abbrev A1 : FVec Ideal S5x6x1024 .f32 := m ((c.tc : Thread nD τ).loc main_arg1)
abbrev A2 : FVec Ideal S1024 .f32 := m ((c.tc : Thread nD τ).loc main_arg2)
abbrev A3 : FVec Ideal S1024x7552 .f32 := m ((c.tc : Thread nD τ).loc main_arg3)

abbrev H := hR (modR (A1 m c)) (A0 m c) (A2 m c)

/-- The array row of row `r` of the block of rows that point `n` works on. -/
abbrev tok (n : ℕ) (hn : n < cfg0.N) (r : Fin 2048) : Fin 24576 :=
  ⟨2048 * (n / 3) + r.val, by have h : n < 36 := hn; omega⟩

/-- What the body computes of the normalised input at point `t`, as a whole block. -/
theorem h_eq (t : Fin cfg0.N) :
    k0_pay1 (iblk m c 1 t) (iblk m c 0 t) (iblk m c 2 t) = fun y => H m c (ix2 (tok t.val t.isLt (y 0)) (y 1)) := by
  funext y
  idx_vars y
  pointwise [k0_pay1, H, hR, modR]
  blk_point [iblk, V, idx t]
  all_goals (split <;> omega)

/-- The carried scratch holds the normalised input of the current block of rows after every point. -/
theorem scr (n : ℕ) (hn : n < cfg0.N) : (outsAt0 m c n hn).2 = fun y => H m c (ix2 (tok n hn (y 0)) (y 1)) := by
  induction n with
  | zero =>
    rw [outsAt0_A m c ⟨0, hn⟩ (Nat.zero_mod _)]
    frame_out
    exact h_eq m c ⟨0, hn⟩
  | succ n ih =>
    by_cases h0 : (n + 1) % 3 = 0
    · rw [outsAt0_A m c ⟨n + 1, hn⟩ h0]
      frame_out
      exact h_eq m c ⟨n + 1, hn⟩
    · rw [outsAt0_B m c ⟨n + 1, hn⟩ h0]
      refine (ih (Nat.lt_of_succ_lt hn)).trans ?_
      funext y
      refine congrArg (fun i => H m c (ix2 i (y 1))) (Fin.ext ?_)
      show 2048 * (n / 3) + (y 0).val = 2048 * ((n + 1) / 3) + (y 0).val
      omega

/-- What a point writes is the product of the scratch with its block of the weight. -/
theorem out_eq (t : Fin cfg0.N) : (outsAt0 m c t.val t.isLt).1
    = k0_pay2 (fun y => H m c (ix2 (tok t.val t.isLt (y 0)) (y 1)) : FVec Ideal S2048x1024 .bf16) (iblk m c 3 t) := by
  by_cases h0 : t.val % 3 = 0
  · rw [outsAt0_A m c t h0]
    frame_open
    frame_out
    rw [h_eq]
  · have h := scr m c (t.val - 1) (Nat.lt_of_le_of_lt (Nat.sub_le _ _) t.isLt)
    rw [outsAt0_B m c t h0]
    frame_open
    frame_out
    rw [h]
    refine congrArg (fun s => k0_pay2 s (iblk m c 3 t)) ?_
    refine (read_unread_whole _ _ _).trans ?_
    funext y
    refine congrArg (fun i => H m c (ix2 i (y 1))) (Fin.ext ?_)
    show 2048 * ((t.val - 1) / 3) + (y 0).val = 2048 * (t.val / 3) + (y 0).val
    omega

/-- The kernel's result: the projection of the normalised input. -/
theorem final : (dats m 0 c).arrAt 4 (cfgs 0).N = outR (H m c) (A3 m c) := by
  refine (dats m 0 c).arrAt_eq_of_covers 4 _ (by decide +kernel) fun t _ y => ?_
  blk_simp
  rw [after0_4, out_eq]
  generalize H m c = H
  idx_vars y
  pointwise [k0_pay2, outR]
  blk_point [iblk, V, idx t]

end Cert.InpAKer
end
-- ==== Proof.InpAClaim.lean ====
/-
  The claims about the input projection (the columns of the recurrence's branch).
-/
module

public import proofs.«01_k».proof.Proof.InpAKer
public import proofs.«01_k».proof.Defs

@[expose] public section

set_option maxRecDepth 16384

noncomputable section

namespace Cert.InpAClaim

open Idealize.ShloMosaic Idealize.SL.Sem

/-- The reference's run ends with its arguments unchanged and every counter zero. -/
theorem frame_ref : Cert.quiescent_Reference3Ideal := fun m ρ _ =>
  (θ_run Cert.Reference3Ideal.defs _ _).mono (fun r h => ⟨fun c => (h c).2, sem_eq_zero_of_no_sems (by decide) r.2⟩)
    (InpARef.run m ρ)

/-- The kernel and the reference, run from equal arguments, end with equal results. -/
theorem algebraic : Cert.algebraic_Kernel3Ideal_Reference3Ideal := by
  intro m g m' g' _ hh
  refine ⟨fun c => InpARef.outR (InpAKer.H m c) (InpAKer.A3 m c), ?_, ?_⟩
  · refine (θ_run Cert.Kernel3Ideal.defs _ _).mono (fun r h c => ?_) (Cert.Kernel3Ideal.Value.run_blocks m g)
    obtain ⟨h0, h2⟩ := h c
    exact ⟨h0.trans (InpAKer.final m c), h2⟩
  · refine (θ_run Cert.Reference3Ideal.defs _ _).mono (fun r h c => ?_) (InpARef.run m' g')
    obtain ⟨h0, h2⟩ := h c
    obtain ⟨a0, a1, a2, a3⟩ := hh c
    exact ⟨h0.trans (by rw [a0, a1, a2, a3]), h2⟩

end Cert.InpAClaim
end
-- ==== Proof.InpBRef.lean ====
/-
  What the reference of the input projection computes: the columns of the chunk MLP and the gates.
-/
module

public import proofs.«01_k».proof.Proof.Gen.Reference4Ideal.Run
public import Idealize.ShloMosaic.Lib.Pointwise
public import Idealize.ShloMosaic.Lib.Pipeline.ValueKit
public import Idealize.ShloMosaic.Lib.Tactic

@[expose] public section

set_option maxRecDepth 16384

noncomputable section

namespace Cert.InpBRef

open Cert.Reference4Ideal Cert.Reference4Ideal.Gen Idealize.ShloMosaic Idealize.ShloMosaic.TcCoe Idealize.SL.Sem

/-- Every token's six modulation rows. -/
def modR (arg1 : FVec Ideal S5x6x1024 .f32) : FVec Ideal S24576x6x1024 .f32 :=
  concatenate S24576x6x1024 0 [⟨S8192x6x1024, (broadcastInDim S8192x6x1024 ![0, 1, 2] bcast_S1x6x1024_S8192x6x1024_0_1_2 (extractStridedSlice S1x6x1024 ![0, 0, 0] arg1 slices_S5x6x1024_S1x6x1024_0_0_0))⟩, ⟨S16384x6x1024, (shapeCast _ (broadcastInDim S4x4096x6x1024 ![0, 1, 2, 3] bcast_S4x1x6x1024_S4x4096x6x1024_0_1_2_3 (broadcastInDim S4x1x6x1024 ![0, 2, 3] bcast_S4x6x1024_S4x1x6x1024_0_2_3 (extractStridedSlice S4x6x1024 ![1, 0, 0] arg1 slices_S5x6x1024_S4x6x1024_1_0_0))) shapeCasts_S4x4096x6x1024_S16384x6x1024)⟩] concatenates_S8192x6x1024_S16384x6x1024_S24576x6x1024_d0

/-- The layer's input: normalised, scaled and shifted. -/
def hR (T : FVec Ideal S24576x6x1024 .f32) (arg0 : FVec Ideal S24576x1024 .f32) (arg2 : FVec Ideal S1024 .f32) : FVec Ideal S24576x1024 .f32 :=
  addf (mulf (mulf (mulf arg0 (broadcastInDim S24576x1024 ![0, 1] bcast_S24576x1_S24576x1024_0_1 (Host.rsqrt (addf (Host.divf (broadcastInDim S24576x1 ![0] bcast_S24576_S24576x1_0 (Host.reduceAdd (mulf arg0 arg0) (constant S_ .f32 0x00000000#32) reducesTo_S24576x1024_S24576_d1 h_S_)) (broadcastInDim S24576x1 ![] bcast_S_S24576x1 (constant S_ .f32 0x44800000#32))) (broadcastInDim S24576x1 ![] bcast_S_S24576x1 (constant S_ .f32 0x358637BD#32)))))) (broadcastInDim S24576x1024 ![0, 1] bcast_S1x1024_S24576x1024_0_1 (broadcastInDim S1x1024 ![1] bcast_S1024_S1x1024_1 arg2))) (addf (broadcastInDim S24576x1024 ![] bcast_S_S24576x1024 (constant S_ .f32 0x3F800000#32)) (shapeCast _ (extractStridedSlice S24576x1x1024 ![0, 1, 0] T slices_S24576x6x1024_S24576x1x1024_0_1_0) shapeCasts_S24576x1x1024_S24576x1024))) (shapeCast _ (extractStridedSlice S24576x1x1024 ![0, 0, 0] T slices_S24576x6x1024_S24576x1x1024_0_0_0) shapeCasts_S24576x1x1024_S24576x1024)

/-- Its projection by the whole weight, and of that the call's columns. -/
def outR (H : FVec Ideal S24576x1024 .f32) (arg3 : FVec Ideal S1024x7552 .f32) : FVec Ideal S24576x4096 .f32 :=
  extractStridedSlice S24576x4096 ![0, 3456] (Host.dotGeneral dot_S24576x1024_S1024x7552_S24576x7552_1_0_0_1_n_n none H arg3) slices_S24576x7552_S24576x4096_0_3456

/-- What the reference's run leaves: its result, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = outR (hR (modR (m ((c.tc : Thread nD τ).loc main_arg1))) (m ((c.tc : Thread nD τ).loc main_arg0)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference4Ideal.Value.run m ρ

end Cert.InpBRef
end
-- ==== Proof.InpBKer.lean ====
/-
  What the input projection leaves in its result (the columns of the chunk MLP and the gates).
-/
module

public import proofs.«01_k».proof.Proof.InpBRef
public import proofs.«01_k».proof.Proof.Gen.Kernel4Ideal.Value
public import Idealize.ShloMosaic.Lib.Pipeline.ReadBack

@[expose] public section

set_option maxRecDepth 16384

noncomputable section

namespace Cert.InpBKer

open Cert.Kernel4Ideal Cert.Kernel4Ideal.Gen Idealize.ShloMosaic Idealize.ShloMosaic.TcCoe Idealize.SL.Sem
open Idealize.ShloMosaic.Pipeline (Dat)
open Cert.InpBRef

variable (m : (ℓ : Loc nD τ sig) → Buf (Elt Ideal) ℓ) (c : Dev nD)

theorem idx : ∀ t : Fin cfg0.N, win0_0.index t = ![t.val / 4, 0]
    ∧ win0_1.index t = ![if t.val / 4 < 4 then 0 else 1 + (t.val / 4 - 4) / 2, 0, 0]
    ∧ win0_2.index t = ![0, 0] ∧ win0_3.index t = ![0, t.val % 4] ∧ win0_4.index t = ![t.val / 4, t.val % 4] :=
  (by decide +kernel : ∀ t : Fin grid0.N, _)

abbrev A0 : FVec Ideal S24576x1024 .f32 := m ((c.tc : Thread nD τ).loc main_arg0)
abbrev A1 : FVec Ideal S5x6x1024 .f32 := m ((c.tc : Thread nD τ).loc main_arg1)
abbrev A2 : FVec Ideal S1024 .f32 := m ((c.tc : Thread nD τ).loc main_arg2)
abbrev A3 : FVec Ideal S1024x7552 .f32 := m ((c.tc : Thread nD τ).loc main_arg3)

abbrev H := hR (modR (A1 m c)) (A0 m c) (A2 m c)

/-- The array row of row `r` of the block of rows that point `n` works on. -/
abbrev tok (n : ℕ) (hn : n < cfg0.N) (r : Fin 2048) : Fin 24576 :=
  ⟨2048 * (n / 4) + r.val, by have h : n < 48 := hn; omega⟩

/-- What the body computes of the normalised input at point `t`, as a whole block. -/
theorem h_eq (t : Fin cfg0.N) :
    k0_pay1 (iblk m c 1 t) (iblk m c 0 t) (iblk m c 2 t) = fun y => H m c (ix2 (tok t.val t.isLt (y 0)) (y 1)) := by
  funext y
  idx_vars y
  pointwise [k0_pay1, H, hR, modR]
  blk_point [iblk, V, idx t]
  all_goals (split <;> omega)

/-- The carried scratch holds the normalised input of the current block of rows after every point. -/
theorem scr (n : ℕ) (hn : n < cfg0.N) : (outsAt0 m c n hn).2 = fun y => H m c (ix2 (tok n hn (y 0)) (y 1)) := by
  induction n with
  | zero =>
    rw [outsAt0_A m c ⟨0, hn⟩ (Nat.zero_mod _)]
    frame_out
    exact h_eq m c ⟨0, hn⟩
  | succ n ih =>
    by_cases h0 : (n + 1) % 4 = 0
    · rw [outsAt0_A m c ⟨n + 1, hn⟩ h0]
      frame_out
      exact h_eq m c ⟨n + 1, hn⟩
    · rw [outsAt0_B m c ⟨n + 1, hn⟩ h0]
      refine (ih (Nat.lt_of_succ_lt hn)).trans ?_
      funext y
      refine congrArg (fun i => H m c (ix2 i (y 1))) (Fin.ext ?_)
      show 2048 * (n / 4) + (y 0).val = 2048 * ((n + 1) / 4) + (y 0).val
      omega

/-- What a point writes is the product of the scratch with its block of the weight. -/
theorem out_eq (t : Fin cfg0.N) : (outsAt0 m c t.val t.isLt).1
    = k0_pay2 (fun y => H m c (ix2 (tok t.val t.isLt (y 0)) (y 1)) : FVec Ideal S2048x1024 .bf16) (iblk m c 3 t) := by
  by_cases h0 : t.val % 4 = 0
  · rw [outsAt0_A m c t h0]
    frame_open
    frame_out
    rw [h_eq]
  · have h := scr m c (t.val - 1) (Nat.lt_of_le_of_lt (Nat.sub_le _ _) t.isLt)
    rw [outsAt0_B m c t h0]
    frame_open
    frame_out
    rw [h]
    refine congrArg (fun s => k0_pay2 s (iblk m c 3 t)) ?_
    refine (read_unread_whole _ _ _).trans ?_
    funext y
    refine congrArg (fun i => H m c (ix2 i (y 1))) (Fin.ext ?_)
    show 2048 * ((t.val - 1) / 4) + (y 0).val = 2048 * (t.val / 4) + (y 0).val
    omega

/-- The kernel's result: the projection of the normalised input. -/
theorem final : (dats m 0 c).arrAt 4 (cfgs 0).N = outR (H m c) (A3 m c) := by
  refine (dats m 0 c).arrAt_eq_of_covers 4 _ (by decide +kernel) fun t _ y => ?_
  blk_simp
  rw [after0_4, out_eq]
  generalize H m c = H
  idx_vars y
  pointwise [k0_pay2, outR]
  blk_point [iblk, V, idx t]

end Cert.InpBKer
end
-- ==== Proof.InpBClaim.lean ====
/-
  The claims about the input projection (the columns of the chunk MLP and the gates).
-/
module

public import proofs.«01_k».proof.Proof.InpBKer
public import proofs.«01_k».proof.Defs

@[expose] public section

set_option maxRecDepth 16384

noncomputable section

namespace Cert.InpBClaim

open Idealize.ShloMosaic Idealize.SL.Sem

/-- The reference's run ends with its arguments unchanged and every counter zero. -/
theorem frame_ref : Cert.quiescent_Reference4Ideal := fun m ρ _ =>
  (θ_run Cert.Reference4Ideal.defs _ _).mono (fun r h => ⟨fun c => (h c).2, sem_eq_zero_of_no_sems (by decide) r.2⟩)
    (InpBRef.run m ρ)

/-- The kernel and the reference, run from equal arguments, end with equal results. -/
theorem algebraic : Cert.algebraic_Kernel4Ideal_Reference4Ideal := by
  intro m g m' g' _ hh
  refine ⟨fun c => InpBRef.outR (InpBKer.H m c) (InpBKer.A3 m c), ?_, ?_⟩
  · refine (θ_run Cert.Kernel4Ideal.defs _ _).mono (fun r h c => ?_) (Cert.Kernel4Ideal.Value.run_blocks m g)
    obtain ⟨h0, h2⟩ := h c
    exact ⟨h0.trans (InpBKer.final m c), h2⟩
  · refine (θ_run Cert.Reference4Ideal.defs _ _).mono (fun r h c => ?_) (InpBRef.run m' g')
    obtain ⟨h0, h2⟩ := h c
    obtain ⟨a0, a1, a2, a3⟩ := hh c
    exact ⟨h0.trans (by rw [a0, a1, a2, a3]), h2⟩

end Cert.InpBClaim
end
-- ==== Proof.ScanStep.lean ====
/-
  One grid step of the scan kernel's body, run from any contents of its buffers: it ends and gives every buffer back. Both ways
  of its one branch (does this step begin a sequence?) are followed.
-/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Tactic

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel5Ideal.Gen

variable {F : FTy → Type} [FloatOps F]

local notation "𝕄" => MT nD τ sig Unit (Elt F) ℕ (UR sig nD τ) ℕ

/-! ## One grid step -/

/-- A staging or scratch buffer owned at some contents. -/
abbrev some_ {sp : Space} {s : Shape} {e : EltTy} (c : Dev nD) (M : Memref sig .tc sp s e) : sProp 𝕄 :=
  iprop(∃ d, owns (c : Thread nD τ) M fullShare d)

/-- A buffer held at contents `f` is a buffer held at some contents. -/
theorem some_intro {sp : Space} {s : Shape} {e : EltTy} (c : Dev nD) (M : Memref sig .tc sp s e) (f : M.view.ty.Contents (Elt F)) :
    (M.view.loc (c : Thread nD τ) ↦[M.view.set]{fullShare} f : sProp 𝕄)
      ⊢ iprop(∃ d f, ⌜M.view.read (Elt F) f = d⌝ ∗ (M.view.loc (c : Thread nD τ) ↦[M.view.set]{fullShare} f)) := by
  iintro H
  iexists (M.view.read (Elt F) f)
  iexists f
  isplitr
  · ipureintro; rfl
  iexact H

set_option maxHeartbeats 0 in
set_option sl_exec.parts true in
/-- One grid step of the body on whole buffers at any contents: it runs to the end, keeps the table of first steps and the
    input blocks, and leaves the outputs and the carried states at some contents. -/
theorem step (c : Dev nD) (i : grid0.Coords) (arg1 : Memref sig .tc .smem S768 .i32) (harg1 : arg1.IsWhole) (arg2 : Memref sig .tc .smem S384 .i32) (harg2 : arg2.IsWhole) (arg3 : Memref sig .tc .smem S384 .i32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S64x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S1x64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S1x2x16x64x64 .f32) (harg19 : arg19.IsWhole) (arg20 : Memref sig .tc .vmem S2x16x64x64 .f32) (harg20 : arg20.IsWhole)
    (q : PosShare TreeShare) (tb : Vec F S384 .i32) (x0 : Vec F S1x64x1024 .f32) (x1 : Vec F S1x64x1024 .f32) (x2 : Vec F S1x64x1024 .f32) (x3 : Vec F S64x1024 .f32) (x4 : Vec F S64x1024 .f32) (x5 : Vec F S64x1024 .f32) (x6 : Vec F S1x64x1024 .f32) (x7 : Vec F S1x64x1024 .f32) (x8 : Vec F S1x64x1024 .f32) (x9 : Vec F S64x1024 .f32) (x10 : Vec F S64x1024 .f32) (x11 : Vec F S64x1024 .f32) (x12 : Vec F S1x2x16x64x64 .f32) (E : Set ℕ) (K : PUnit → sProp 𝕄) :
    iprop(owns (c : Thread nD τ) arg2 q tb ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ some_ c arg17 ∗ some_ c arg18 ∗ some_ c arg19 ∗ some_ c arg20
        ∗ (iprop(owns (c : Thread nD τ) arg2 q tb ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ some_ c arg17 ∗ some_ c arg18 ∗ some_ c arg19 ∗ some_ c arg20) -∗ K ⟨⟩))
      ⊢ wp frame (wpE (defs₀ (F := F)) Variants.none c none) E (cc0_rwkv_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_rwkv_scan_eq_skeleton]; unfold cc0_rwkv_scan_skel
  unfold some_ owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds, %fs, -, HS⟩, Hk⟩
  obtain rfl := harg2.eq_unread hft; obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11; obtain rfl := harg16.eq_unread hf12
  sl_exec
  sl_step
  iapply Hk
  isplitl [HT]
  · iexists _; isplitr; · ipureintro; exact harg2.read_unread _
    iexact HT
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; · ipureintro; exact harg12.read_unread _
    iexact H8
  isplitl [H9]
  · iexists _; isplitr; · ipureintro; exact harg13.read_unread _
    iexact H9
  isplitl [H10]
  · iexists _; isplitr; · ipureintro; exact harg14.read_unread _
    iexact H10
  isplitl [H11]
  · iexists _; isplitr; · ipureintro; exact harg15.read_unread _
    iexact H11
  isplitl [H12]
  · iexists _; isplitr; · ipureintro; exact harg16.read_unread _
    iexact H12
  isplitl [H13]
  · iapply (some_intro c arg17)
    iexact H13
  isplitl [H14]
  · iapply (some_intro c arg18)
    iexact H14
  isplitl [H15]
  · iapply (some_intro c arg19)
    iexact H15
  iapply (some_intro c arg20)
  iexact HS

end Cert.Kernel5Ideal.Scan

end
-- ==== Proof.ScanTables.lean ====
/-
  The three tables the host writes before the scan's call (which block of tokens each grid step takes in either direction,
  whether it begins a sequence, which sequence it belongs to): at them every window's block lies inside its array; and what
  the buffers hold when the call begins.
-/
module

public import proofs.«01_k».proof.Proof.Gen.Kernel5Ideal.Launch
public import Idealize.ShloMosaic.Lib.Pipeline.FrameBody
public import Idealize.ShloMosaic.Lib.Tactic

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel5Ideal.Gen

variable {F : FTy → Type} [FloatOps F]

local notation "𝕄" => MT nD τ sig Unit (Elt F) ℕ (UR sig nD τ) ℕ

/-! ## The tables the host writes -/

/-- The three tables as the region finds them. -/
def tabs : pre0.Contents (Elt F) :=
  fun | 0 => fun i => lit0 (S768.rowMajor i) | 1 => fun i => lit1 (S384.rowMajor i) | 2 => fun i => lit2 (S384.rowMajor i)
      | ⟨_ + 3, h⟩ => absurd h (Nat.not_lt.2 (Nat.le_add_left _ _))

theorem blk_lt : ∀ n : Fin 768, (lit0 n).toNat < 384 := by decide +kernel
theorem seq_lt : ∀ n : Fin 384, (lit2 n).toNat < 36 := by decide +kernel

/-- A word of the block table names one of the 384 blocks of tokens. -/
theorem at0_lt (r : Rect S768) (h) : (Pipeline.Prefetch.Contents.at (tabs (F := F)) 0 r h : BitVec 32).toNat < 384 := blk_lt _
/-- A word of the sequence table names one of the 36 sequences. -/
theorem at2_lt (r : Rect S384) (h) : (Pipeline.Prefetch.Contents.at (tabs (F := F)) 2 r h : BitVec 32).toNat < 36 := seq_lt _

/-- At these tables every window's block lies inside its array at every step. -/
theorem tabs_ok : ok0 (F := F) tabs := by
  unfold ok0
  refine ⟨?_, ?_, ?_, ?_, ?_, ?_, ?_, ?_, ?_, ?_, ?_, ?_, ?_, ?_, ?_, ?_⟩ <;> intro i <;> refine ⟨fun a => ?_, .inl rfl⟩
  iterate 3 (have h := at0_lt (F := F) (Rect.unit (s := S768) _ S1.size (k0_off1_inb i 0)) numel1_S1
             fin_cases a
             · exact show (0 + 1) * 1 ≤ 2 by decide
             · exact Nat.le_trans (Nat.mul_le_mul_right 64 h) (show 384 * 64 ≤ 24576 by decide)
             · exact show (0 + 1) * 1024 ≤ 1024 by decide)
  iterate 3 (have h := at0_lt (F := F) (Rect.unit (s := S768) _ S1.size (k0_off1_inb i 0)) numel1_S1
             fin_cases a
             · exact Nat.le_trans (Nat.mul_le_mul_right 64 h) (show 384 * 64 ≤ 24576 by decide)
             · exact show (0 + 1) * 1024 ≤ 1024 by decide)
  iterate 3 (have h := at0_lt (F := F) (Rect.unit (s := S768) _ S1.size (k0_off1_inb i 1)) numel1_S1
             fin_cases a
             · exact show (1 + 1) * 1 ≤ 2 by decide
             · exact Nat.le_trans (Nat.mul_le_mul_right 64 h) (show 384 * 64 ≤ 24576 by decide)
             · exact show (0 + 1) * 1024 ≤ 1024 by decide)
  iterate 3 (have h := at0_lt (F := F) (Rect.unit (s := S768) _ S1.size (k0_off1_inb i 1)) numel1_S1
             fin_cases a
             · exact Nat.le_trans (Nat.mul_le_mul_right 64 h) (show 384 * 64 ≤ 24576 by decide)
             · exact show (0 + 1) * 1024 ≤ 1024 by decide)
  · have h := at2_lt (F := F) (Rect.unit (s := S384) _ S1.size (k0_off2_inb i)) numel1_S1
    fin_cases a
    · exact Nat.le_trans (Nat.mul_le_mul_right 1 h) (show 36 * 1 ≤ 36 by decide)
    · exact show (0 + 1) * 2 ≤ 2 by decide
    · exact show (0 + 1) * 16 ≤ 16 by decide
    · exact show (0 + 1) * 64 ≤ 64 by decide
    · exact show (0 + 1) * 64 ≤ 64 by decide
  · have h := at0_lt (F := F) (Rect.unit (s := S768) _ S1.size (k0_off1_inb i 0)) numel1_S1
    fin_cases a
    · exact Nat.le_trans (Nat.mul_le_mul_right 64 h) (show 384 * 64 ≤ 24576 by decide)
    · exact show (0 + 1) * 1024 ≤ 1024 by decide
  · have h := at0_lt (F := F) (Rect.unit (s := S768) _ S1.size (k0_off1_inb i 1)) numel1_S1
    fin_cases a
    · exact Nat.le_trans (Nat.mul_le_mul_right 64 h) (show 384 * 64 ≤ 24576 by decide)
    · exact show (0 + 1) * 1024 ≤ 1024 by decide
  · have h := at2_lt (F := F) (Rect.unit (s := S384) _ S1.size (k0_off2_inb i)) numel1_S1
    fin_cases a
    · exact Nat.le_trans (Nat.mul_le_mul_right 1 h) (show 36 * 1 ≤ 36 by decide)
    · exact show (0 + 1) * 2 ≤ 2 by decide
    · exact show (0 + 1) * 16 ≤ 16 by decide
    · exact show (0 + 1) * 64 ≤ 64 by decide
    · exact show (0 + 1) * 64 ≤ 64 by decide

/-- The tables as admissible contents of the call. -/
abbrev adm : (p : Fin 1) → (pcfgs (F := F) p).Adm := fun _ => ⟨tabs, tabs_ok⟩
/-- The call's pipeline at these tables. -/
abbrev scfg : Pipeline.Cfg sig Λ₀ := Pipeline.pin (pcfgs (F := F)) adm 0

/-! ## The region's entry -/

variable (m : (ℓ : Loc nD τ sig) → Buf (Elt F) ℓ) (ρ : Dev nD → PrngReg)

/-- Core `c`'s buffers when the region is entered: as launched, with the three tables written. -/
abbrev V (c : Dev nD) (b : Ref sig .tc) : Buf (Elt F) ((c : Thread nD τ).loc b) :=
  StableHlo.after hostOps0 (fun b => m (c, b)) (Proc.devRef .tc b)

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl, rfl⟩ main_chain

/-- A buffer that is no table is as launched. -/
theorem V_other (c : Dev nD) {b : Ref sig .tc} (h0 : b ≠ main_c) (h1 : b ≠ main_c_0) (h2 : b ≠ main_c_1) :
    V m c b = m ((c : Thread nD τ).loc b) := by
  exact (StableHlo.nullary_result_ne main_c_1 _ _ _ h2).trans
    ((StableHlo.nullary_result_ne main_c_0 _ _ _ h1).trans (StableHlo.nullary_result_ne main_c _ _ _ h0))

/-- The tables are what the host wrote. -/
theorem V_tabs (c : Dev nD) : ∀ k, V m c (pre0.ref k) = tabs k := by
  have t0 : V m c main_c = tabs (F := F) 0 := by unfold V hostOps0; after_results_simp; rfl
  have t1 : V m c main_c_0 = tabs (F := F) 1 := by unfold V hostOps0; after_results_simp; rfl
  have t2 : V m c main_c_1 = tabs (F := F) 2 := by unfold V hostOps0; after_results_simp; rfl
  exact fun | 0 => t0 | 1 => t1 | 2 => t2

end Cert.Kernel5Ideal.Scan

end
-- ==== Proof.ScanFrame.lean ====
/-
  The frame of the scan kernel: it runs to the end from any memory, leaves its seven argument arrays as they were and every
  semaphore counter at zero.

  The call prefetches three tables that the host writes before it: which block of tokens each grid step takes in either
  direction, whether the step is the first of its sequence, and which sequence it belongs to. Each of the six token arrays is
  handed to the call twice, once for either direction, so its windows share it. The body carries the states of all heads
  in a scratch buffer. The frame names none of what the body computes, so one run of the body from any contents is
  enough: both ways of its one branch are followed.
-/
module

public import proofs.«01_k».proof.Proof.ScanStep
public import proofs.«01_k».proof.Proof.ScanTables
public import Idealize.ShloMosaic.Lib.Pipeline.FrameBody
public import Idealize.ShloMosaic.Lib.Tactic

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The scratch buffer and the generator register at some contents. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The three tables, one by one. -/
theorem PhiT_eq (c : Dev nD) :
    (Pipeline.ΦT pre0 tabs c : sProp 𝕄)
      = iprop(owns (c : Thread nD τ) (Memref.whole main_c) fullShare.right (tabs (F := F) 0)
          ∗ owns (c : Thread nD τ) (Memref.whole main_c_0) fullShare.right (tabs (F := F) 1)
          ∗ owns (c : Thread nD τ) (Memref.whole main_c_1) fullShare.right (tabs (F := F) 2)) := by
  unfold Pipeline.ΦT Pipeline.prefHeld
  rw [show (Finset.univ : Finset (Fin pre0.K)) = (Finset.univ : Finset (Fin 3)) from rfl,
    bigSep_univ_eq_bigSepL [(0 : Fin 3), (1 : Fin 3), (2 : Fin 3)] (by decide) (by decide)]
  exact congrArg₂ _ (owns_whole ..).symm (congrArg₂ _ (owns_whole ..).symm (owns_whole ..).symm)

/-- What the proof names: the arrays as the region finds them, the scratch and the tables; of the windows' contents nothing. -/
def dats (_ : Fin 1) (c : Dev nD) : Dat τ (Elt F) Unit ℕ (UR sig nD τ) ℕ (scfg (F := F)) c where
  A w := V m c (Pipeline.arrRef spec0 w)
  after w t := Dat.unnamed w t
  Φ _ := iprop(Pipeline.ΦA spec0 c ∗ Pipeline.ΦT pre0 tabs c)
  q w := Pipeline.shareOf spec0 w
  owed _ := 0

/-- The staging buffer of each window at a step. -/
abbrev stg (t : Fin (scfg (F := F)).N) (w : Fin 16) := ((scfg (F := F)).win w).stage ((scfg (F := F)).slots t w)

/-- The body at a step: the tables, the sixteen staging buffers, the scratch. -/
abbrev bodyAt (t : Fin (scfg (F := F)).N) :=
  cc0_rwkv_scan (F := F) (grid0.coords t) (Memref.whole main_c) (Memref.isWhole_whole _) (Memref.whole main_c_0) (Memref.isWhole_whole _) (Memref.whole main_c_1) (Memref.isWhole_whole _)
    (spec0_0.stage ((scfg (F := F)).slots t 0)) (hstage0_0 (((scfg (F := F)).slots t 0).cast nbuf0_0)) (spec0_1.stage ((scfg (F := F)).slots t 1)) (hstage0_1 (((scfg (F := F)).slots t 1).cast nbuf0_1)) (spec0_2.stage ((scfg (F := F)).slots t 2)) (hstage0_2 (((scfg (F := F)).slots t 2).cast nbuf0_2)) (spec0_3.stage ((scfg (F := F)).slots t 3)) (hstage0_3 (((scfg (F := F)).slots t 3).cast nbuf0_3)) (spec0_4.stage ((scfg (F := F)).slots t 4)) (hstage0_4 (((scfg (F := F)).slots t 4).cast nbuf0_4)) (spec0_5.stage ((scfg (F := F)).slots t 5)) (hstage0_5 (((scfg (F := F)).slots t 5).cast nbuf0_5)) (spec0_6.stage ((scfg (F := F)).slots t 6)) (hstage0_6 (((scfg (F := F)).slots t 6).cast nbuf0_6)) (spec0_7.stage ((scfg (F := F)).slots t 7)) (hstage0_7 (((scfg (F := F)).slots t 7).cast nbuf0_7)) (spec0_8.stage ((scfg (F := F)).slots t 8)) (hstage0_8 (((scfg (F := F)).slots t 8).cast nbuf0_8)) (spec0_9.stage ((scfg (F := F)).slots t 9)) (hstage0_9 (((scfg (F := F)).slots t 9).cast nbuf0_9)) (spec0_10.stage ((scfg (F := F)).slots t 10)) (hstage0_10 (((scfg (F := F)).slots t 10).cast nbuf0_10)) (spec0_11.stage ((scfg (F := F)).slots t 11)) (hstage0_11 (((scfg (F := F)).slots t 11).cast nbuf0_11)) (spec0_12.stage ((scfg (F := F)).slots t 12)) (hstage0_12 (((scfg (F := F)).slots t 12).cast nbuf0_12)) (spec0_13.stage ((scfg (F := F)).slots t 13)) (hstage0_13 (((scfg (F := F)).slots t 13).cast nbuf0_13)) (spec0_14.stage ((scfg (F := F)).slots t 14)) (hstage0_14 (((scfg (F := F)).slots t 14).cast nbuf0_14)) (spec0_15.stage ((scfg (F := F)).slots t 15)) (hstage0_15 (((scfg (F := F)).slots t 15).cast nbuf0_15)) (Memref.whole cc0_scratch0) (Memref.isWhole_whole _)

theorem row (t : Fin (scfg (F := F)).N) :
    defs₀ (F := F) .tc (scfg (F := F)).body ((scfg (F := F)).bodyArgs t ((scfg (F := F)).slots t)) = bodyAt t := by
  unfold defs₀; rw [Defs.onTc_tc]

set_option maxHeartbeats 0 in
/-- The body's obligation at every step, every window's contents forgotten. -/
theorem body (c : Dev nD) :
    Pipeline.BodyObligationLoose (dats (F := F) m 0 c) (defs₀ (F := F)) Variants.none () Set.univ (fun _ => true) := fun t => by
  rw [bigSep_W0]
  rw [row]
  dsimp only
  have key : iprop((dats (F := F) m 0 c).Φ t.castSucc ∗ (dats (F := F) m 0 c).owesAt () t.castSucc
        ∗ (∃ X, owns (c : Thread nD τ) (stg t 0) fullShare X)
        ∗ (∃ X, owns (c : Thread nD τ) (stg t 1) fullShare X)
        ∗ (∃ X, owns (c : Thread nD τ) (stg t 2) fullShare X)
        ∗ (∃ X, owns (c : Thread nD τ) (stg t 3) fullShare X)
        ∗ (∃ X, owns (c : Thread nD τ) (stg t 4) fullShare X)
        ∗ (∃ X, owns (c : Thread nD τ) (stg t 5) fullShare X)
        ∗ (∃ X, owns (c : Thread nD τ) (stg t 6) fullShare X)
        ∗ (∃ X, owns (c : Thread nD τ) (stg t 7) fullShare X)
        ∗ (∃ X, owns (c : Thread nD τ) (stg t 8) fullShare X)
        ∗ (∃ X, owns (c : Thread nD τ) (stg t 9) fullShare X)
        ∗ (∃ X, owns (c : Thread nD τ) (stg t 10) fullShare X)
        ∗ (∃ X, owns (c : Thread nD τ) (stg t 11) fullShare X)
        ∗ (∃ X, owns (c : Thread nD τ) (stg t 12) fullShare X)
        ∗ (∃ X, owns (c : Thread nD τ) (stg t 13) fullShare X)
        ∗ (∃ X, owns (c : Thread nD τ) (stg t 14) fullShare X)
        ∗ (∃ X, owns (c : Thread nD τ) (stg t 15) fullShare X))
      ⊢ wp frame (wpE (defs₀ (F := F)) Variants.none c none) Set.univ
          (bodyAt t)
          (fun _ => iprop((dats (F := F) m 0 c).Φ t.succ ∗ (dats (F := F) m 0 c).owesAt () t.succ
        ∗ (∃ X, owns (c : Thread nD τ) (stg t 0) fullShare X)
        ∗ (∃ X, owns (c : Thread nD τ) (stg t 1) fullShare X)
        ∗ (∃ X, owns (c : Thread nD τ) (stg t 2) fullShare X)
        ∗ (∃ X, owns (c : Thread nD τ) (stg t 3) fullShare X)
        ∗ (∃ X, owns (c : Thread nD τ) (stg t 4) fullShare X)
        ∗ (∃ X, owns (c : Thread nD τ) (stg t 5) fullShare X)
        ∗ (∃ X, owns (c : Thread nD τ) (stg t 6) fullShare X)
        ∗ (∃ X, owns (c : Thread nD τ) (stg t 7) fullShare X)
        ∗ (∃ X, owns (c : Thread nD τ) (stg t 8) fullShare X)
        ∗ (∃ X, owns (c : Thread nD τ) (stg t 9) fullShare X)
        ∗ (∃ X, owns (c : Thread nD τ) (stg t 10) fullShare X)
        ∗ (∃ X, owns (c : Thread nD τ) (stg t 11) fullShare X)
        ∗ (∃ X, owns (c : Thread nD τ) (stg t 12) fullShare X)
        ∗ (∃ X, owns (c : Thread nD τ) (stg t 13) fullShare X)
        ∗ (∃ X, owns (c : Thread nD τ) (stg t 14) fullShare X)
        ∗ (∃ X, owns (c : Thread nD τ) (stg t 15) fullShare X))) := by
    rw [show (dats (F := F) m 0 c).owesAt () t.succ = (dats (F := F) m 0 c).owesAt () t.castSucc from rfl,
      show (dats (F := F) m 0 c).Φ t.succ = iprop(Pipeline.ΦA spec0 c ∗ Pipeline.ΦT pre0 tabs c) from rfl,
      show (dats (F := F) m 0 c).Φ t.castSucc = iprop(Pipeline.ΦA spec0 c ∗ Pipeline.ΦT pre0 tabs c) from rfl, PhiA_eq, PhiT_eq]
    iintro ⟨⟨⟨HS, Hg⟩, ⟨HT0, HT, HT2⟩⟩, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, H13, H14, H15⟩
    iapply (step c (grid0.coords t) _ _ _ _ _ _ _ _ _ _ _ _ _ _ _ _ _ _ _ _ _ _ _ _ _ _ _ _ _ _ _ _ _ _ _ _ _ _  _ _ fullShare.right (tabs (F := F) 1) x0 x1 x2 x3 x4 x5 x6 x7 x8 x9 x10 x11 x12 Set.univ _)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS]; · iexact HS
    iintro ⟨HT, H0, H1, H2, H3, H4, H5, H6, H7, H8, H9, H10, H11, H12, H13, H14, H15, HS⟩
    isplitl [HS Hg HT0 HT HT2]
    · isplitl [HS Hg]
      · isplitl [HS] <;> iassumption
      isplitl [HT0]; · iexact HT0
      isplitl [HT] <;> iassumption
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    iexact H15
  exact triple_restated key rfl .rfl fun _ => .rfl

/-! ## The launch -/

set_option backward.isDefEq.respectTransparency.types false in
/-- Every run from any memory with zero counters ends, with the counters zero again and every array that no output window
    writes as the region found it. -/
theorem run : θ_run defs (onTc (τ := τ) (main (F := F))) (s₀ m ρ)
    (fun r => Pipeline.RDat.FramePost (scfg (F := F)) (fun c => (dats m 0 c).toRForget (fun _ => true)) (V m) r ∧ r.2.sem = fun _ => 0) :=
  Pipeline.θ_run_frameP_forget_shared (Q' := _) pcfgs adm (dats m) (0 : Fin 1) launch₀0 defs₀ Variants.none (fun _ => true) m ρ main
    (hbody := body m) (hq := fun _ _ _ => rfl) (howed := fun _ _ => rfl) (V := V m) (hmain := hmain m Variants.none)
    (hA := fun _ _ => rfl) (hpf := V_tabs m) (hΦ := fun _ _ => rfl)

/-- An input window's array ends as launched. -/
theorem kept {r : PUnit × MemSt nD τ sig (Elt F)}
    (h : Pipeline.RDat.FramePost (scfg (F := F)) (fun c => (dats m 0 c).toRForget (fun _ => true)) (V m) r) (c : Dev nD) (w : Fin 16)
    (hw : (spec0 w).isOut = false) {b : Ref sig .tc} (hb : Pipeline.arrRef spec0 w = b) (h0 : b ≠ main_c) (h1 : b ≠ main_c_0) (h2 : b ≠ main_c_1) :
    r.2.mem ((c : Thread nD τ).loc b) = m ((c : Thread nD τ).loc b) := by
  subst hb
  rw [← V_other m c h0 h1 h2]
  have e := (h c).1 w
  have e' := Pipeline.RDat.ArrAt_in ((dats m 0 c).toRForget (fun _ => true)) w hw (scfg (F := F)).N
  exact (congrFun e' _).mp e

/-- THE FRAME: every run ends, with the seven argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨kept m h.1 c 0 rfl rfl (by decide) (by decide) (by decide), kept m h.1 c 1 rfl rfl (by decide) (by decide) (by decide), kept m h.1 c 2 rfl rfl (by decide) (by decide) (by decide), kept m h.1 c 3 rfl rfl (by decide) (by decide) (by decide), kept m h.1 c 4 rfl rfl (by decide) (by decide) (by decide), kept m h.1 c 5 rfl rfl (by decide) (by decide) (by decide), kept m h.1 c 12 rfl rfl (by decide) (by decide) (by decide)⟩, h.2⟩) (run m ρ)

end Cert.Kernel5Ideal.Scan

end
-- ==== Proof.ScanClaim.lean ====
/-
  The frames of the recurrence's call, of the program as it runs and of the one read over the reals: the same program, so one
  proof serves both.
-/
module

public import proofs.«01_k».proof.Proof.ScanFrame
public import proofs.«01_k».proof.Proof.Gen.Kernel5
public import proofs.«01_k».proof.Defs

@[expose] public section

set_option maxRecDepth 65536

noncomputable section

namespace Cert.ScanClaim

open Idealize.ShloMosaic Idealize.SL.Sem

/-- The recurrence's call over the extended reals runs to its end and leaves its arguments and counters as they were. -/
theorem frame_ideal : Cert.quiescent_Kernel5Ideal := fun m ρ _ => Cert.Kernel5Ideal.Scan.frame m ρ

set_option smartUnfolding false in
set_option maxHeartbeats 0 in
/-- The same of the call over float words: the two programs have the same text, so the one run serves. -/
theorem frame_bits : Cert.quiescent_Kernel5 := fun m ρ _ => Cert.Kernel5Ideal.Scan.frame (F := Bits) m ρ

end Cert.ScanClaim
end
-- ==== Proof.PostRef.lean ====
/-
  The part after the recurrence, as the reference states it, cut into its stages.
-/
module

public import proofs.«01_k».proof.Proof.Gen.Reference6Ideal.Run
public import Idealize.ShloMosaic.Lib.Pointwise
public import Idealize.ShloMosaic.Lib.Pipeline.ValueKit
public import Idealize.ShloMosaic.Lib.Tactic

@[expose] public section

set_option maxRecDepth 16384

noncomputable section

namespace Cert.PostRef

open Cert.Reference6Ideal Cert.Reference6Ideal.Gen Idealize.ShloMosaic Idealize.ShloMosaic.TcCoe Idealize.SL.Sem

/-- The two directions' sum less its mean over the head. -/
def cenR (arg0 arg1 : FVec Ideal S24576x1024 .f32) : FVec Ideal S24576x16x64 .f32 :=
  subf (shapeCast _ (addf arg0 arg1) shapeCasts_S24576x1024_S24576x16x64) (broadcastInDim S24576x16x64 ![0, 1, 2] bcast_S24576x16x1_S24576x16x64_0_1_2 (Host.divf (broadcastInDim S24576x16x1 ![0, 1] bcast_S24576x16_S24576x16x1_0_1 (Host.reduceAdd (shapeCast _ (addf arg0 arg1) shapeCasts_S24576x1024_S24576x16x64) (constant S_ .f32 0x00000000#32) reducesTo_S24576x16x64_S24576x16_d2 h_S_)) (broadcastInDim S24576x16x1 ![] bcast_S_S24576x16x1 (constant S_ .f32 0x42800000#32))))

/-- The head's normalised row with the bonus, gated. -/
def gateR (T1 : FVec Ideal S24576x16x64 .f32) (arg2 arg3 : FVec Ideal S24576x1024 .f32) (arg4 arg5 : FVec Ideal S1024 .f32) : FVec Ideal S24576x1024 .f32 :=
  mulf (addf (shapeCast _ (addf (mulf (mulf T1 (broadcastInDim S24576x16x64 ![0, 1, 2] bcast_S24576x16x1_S24576x16x64_0_1_2 (Host.rsqrt (addf (Host.divf (broadcastInDim S24576x16x1 ![0, 1] bcast_S24576x16_S24576x16x1_0_1 (Host.reduceAdd (mulf T1 T1) (constant S_ .f32 0x00000000#32) reducesTo_S24576x16x64_S24576x16_d2 h_S_)) (broadcastInDim S24576x16x1 ![] bcast_S_S24576x16x1 (constant S_ .f32 0x42800000#32))) (broadcastInDim S24576x16x1 ![] bcast_S_S24576x16x1 (constant S_ .f32 0x3A27C5AC#32)))))) (broadcastInDim S24576x16x64 ![0, 1, 2] bcast_S1x16x64_S24576x16x64_0_1_2 (broadcastInDim S1x16x64 ![1, 2] bcast_S16x64_S1x16x64_1_2 (shapeCast _ arg4 shapeCasts_S1024_S16x64)))) (broadcastInDim S24576x16x64 ![0, 1, 2] bcast_S1x16x64_S24576x16x64_0_1_2 (broadcastInDim S1x16x64 ![1, 2] bcast_S16x64_S1x16x64_1_2 (shapeCast _ arg5 shapeCasts_S1024_S16x64)))) shapeCasts_S24576x16x64_S24576x1024) arg2) arg3

/-- The branch's projection. -/
def outR (G : FVec Ideal S24576x1024 .f32) (arg6 : FVec Ideal S1024x1024 .f32) : FVec Ideal S24576x1024 .f32 :=
  Host.dotGeneral dot_S24576x1024_S1024x1024_S24576x1024_1_0_0_1_n_n none G arg6

/-- The reference's centred row, channel `q` of head `h`. -/
theorem cenR_at (a b : FVec Ideal S24576x1024 .f32) (n : Fin 24576) (h : Fin 16) (q : Fin 64) :
    cenR a b (ix3 n h q) = (a (ix2 n (⟨64 * h.val + q.val, by omega⟩ : Fin 1024)) + b (ix2 n (⟨64 * h.val + q.val, by omega⟩ : Fin 1024)))
      - Ideal.div (∑ k : Fin 64, (a (ix2 n (⟨64 * h.val + k.val, by omega⟩ : Fin 1024)) + b (ix2 n (⟨64 * h.val + k.val, by omega⟩ : Fin 1024))))
          (Ideal.ofBits .f32 0x42800000#32) := by
  pointwise [cenR]
  blk_point []

/-- The reference's gated row, channel `q` of head `h`. -/
theorem gateR_at (C : FVec Ideal S24576x16x64 .f32) (v g : FVec Ideal S24576x1024 .f32) (lg lb : FVec Ideal S1024 .f32)
    (n : Fin 24576) (h : Fin 16) (q : Fin 64) :
    gateR C v g lg lb (ix2 n (⟨64 * h.val + q.val, by omega⟩ : Fin 1024))
      = (C (ix3 n h q) * Ideal.rsqrt (Ideal.div (∑ k : Fin 64, C (ix3 n h k) * C (ix3 n h k)) (Ideal.ofBits .f32 0x42800000#32)
          + Ideal.ofBits .f32 0x3A27C5AC#32) * lg (ix1 (⟨64 * h.val + q.val, by omega⟩ : Fin 1024))
          + lb (ix1 (⟨64 * h.val + q.val, by omega⟩ : Fin 1024))
        + v (ix2 n (⟨64 * h.val + q.val, by omega⟩ : Fin 1024))) * g (ix2 n (⟨64 * h.val + q.val, by omega⟩ : Fin 1024)) := by
  pointwise [gateR]
  blk_point []

/-- What the reference's run leaves: its result, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = outR (gateR (cenR (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => h c) (Cert.Reference6Ideal.Value.run (F := Ideal) m ρ)

end Cert.PostRef
end
-- ==== Proof.SegSum.lean ====
/-
  The sum over a head's 64 channels, as the kernel takes it: two products with a 0/1 matrix that says which head a channel
  belongs to, each once with a number and once with what the number loses in a cast, which over the reals is zero. The numbers have
  to be finite: an infinite one less itself is not zero.
-/
module

public import Idealize.ShloMosaic.Lib.Pointwise

@[expose] public section

noncomputable section

namespace Cert.SegSum

/-- A sum of reals, taken among the extended reals. -/
theorem coe_sum {n : ℕ} (f : Fin n → ℝ) : (∑ i, (f i : EReal)) = ((∑ i, f i : ℝ) : EReal) := by
  induction (Finset.univ : Finset (Fin n)) using Finset.cons_induction with
  | empty => simp
  | cons a s h ih => rw [Finset.sum_cons, Finset.sum_cons, ih, EReal.coe_add]

/-- A sum over the channels that keeps one head's is the sum over the head. -/
theorem head_sum (f : Fin 1024 → ℝ) (j : Fin 1024) :
    (∑ k : Fin 1024, f k * (if k.val / 64 = j.val / 64 then 1 else 0)) = ∑ q : Fin 64, f ⟨64 * (j.val / 64) + q.val, by omega⟩ := by
  rw [← Equiv.sum_comp (finProdFinEquiv (m := 16) (n := 64)) (fun k : Fin 1024 => f k * (if k.val / 64 = j.val / 64 then 1 else 0)),
    Fintype.sum_prod_type]
  rw [Finset.sum_eq_single (⟨j.val / 64, by omega⟩ : Fin 16)]
  · refine Finset.sum_congr rfl fun q _ => ?_
    have e : (finProdFinEquiv (m := 16) (n := 64) (⟨j.val / 64, by omega⟩, q) : Fin 1024) = ⟨64 * (j.val / 64) + q.val, by omega⟩ :=
      Fin.ext (by simp [finProdFinEquiv]; omega)
    rw [e, if_pos (by simp only []; omega), mul_one]
  · intro a _ ha
    refine Finset.sum_eq_zero fun q _ => ?_
    rw [if_neg, mul_zero]
    intro h
    apply ha
    apply Fin.ext
    have e : ((finProdFinEquiv (m := 16) (n := 64) (a, q) : Fin 1024) : ℕ) = q.val + 64 * a.val := by simp [finProdFinEquiv]
    change (finProdFinEquiv (m := 16) (n := 64) (a, q)).val / 64 = j.val / 64 at h
    simp only []
    omega
  · intro h; exact absurd (Finset.mem_univ _) h

/-- The kernel's sum over a head of finite numbers is the sum over the head. -/
theorem seg_sum (x : Fin 1024 → EReal) (hx : ∀ k, ∃ r : ℝ, x k = r) (e : Fin 1024 → Fin 128 → EReal)
    (he : ∀ k h, e k h = if k.val / 64 = h.val then 1 else 0) (j : Fin 1024) :
    (∑ h : Fin 128, (∑ k, x k * e k h + ∑ k, (x k - x k) * e k h) * e j h
      + ∑ h : Fin 128, ((∑ k, x k * e k h + ∑ k, (x k - x k) * e k h) - (∑ k, x k * e k h + ∑ k, (x k - x k) * e k h)) * e j h)
      = ∑ q : Fin 64, x ⟨64 * (j.val / 64) + q.val, by omega⟩ := by
  choose f hf using hx
  have he' : ∀ k h, e k h = ((if k.val / 64 = h.val then 1 else 0 : ℝ) : EReal) := fun k h => by
    rw [he]; split <;> simp
  have hs : ∀ h : Fin 128, (∑ k, x k * e k h + ∑ k, (x k - x k) * e k h)
      = ((∑ k, f k * (if k.val / 64 = h.val then 1 else 0) : ℝ) : EReal) := fun h => by
    rw [← coe_sum]
    rw [show (∑ k, (x k - x k) * e k h) = 0 from Finset.sum_eq_zero fun k _ => by
      rw [hf, ← EReal.coe_sub, sub_self, EReal.coe_zero, zero_mul], add_zero]
    refine Finset.sum_congr rfl fun k _ => ?_
    rw [hf, he', EReal.coe_mul]
  simp only [hs]
  rw [show (∑ h : Fin 128, (((∑ k, f k * (if k.val / 64 = h.val then 1 else 0) : ℝ) : EReal)
      - ((∑ k, f k * (if k.val / 64 = h.val then 1 else 0) : ℝ) : EReal)) * e j h) = 0 from
    Finset.sum_eq_zero fun h _ => by rw [← EReal.coe_sub, sub_self, EReal.coe_zero, zero_mul], add_zero]
  rw [Finset.sum_eq_single (⟨j.val / 64, by omega⟩ : Fin 128)]
  · rw [he', if_pos rfl, EReal.coe_one, mul_one, head_sum, ← coe_sum]
    exact Finset.sum_congr rfl fun q _ => (hf _).symm
  · intro h _ hh
    rw [he', if_neg, EReal.coe_zero, mul_zero]
    intro e
    exact hh (Fin.ext e.symm)
  · intro h; exact absurd (Finset.mem_univ _) h

end Cert.SegSum
end
-- ==== Proof.PostKer.lean ====
/-
  The kernel after the recurrence, block by block, equal to the reference's stages.
-/
module

public import proofs.«01_k».proof.Proof.SegSum
public import proofs.«01_k».proof.Proof.Gen.Kernel6Ideal.Skeleton
public import Idealize.ShloMosaic.Lib.Pointwise
public import Idealize.ShloMosaic.Lib.Pipeline.ValueKit
public import Idealize.ShloMosaic.Lib.Tactic

@[expose] public section

set_option maxRecDepth 16384

noncomputable section

namespace Cert.PostKer

open Cert.Kernel6Ideal Cert.Kernel6Ideal.Gen Idealize.ShloMosaic Idealize.ShloMosaic.TcCoe Idealize.SL.Sem

/-- A block's row less its mean over the head. -/
def cen (v0 v1 : Vec Ideal S256x1024 .f32) (y : S256x1024.Idx) : EReal :=
  (v0 y + v1 y) - Ideal.div (∑ q : Fin 64, (v0 (ix2 (y 0) (⟨64 * ((y 1).val / 64) + q.val, by have : (y 1).val < 1024 := (y 1).isLt; omega⟩ : Fin 1024))
    + v1 (ix2 (y 0) (⟨64 * ((y 1).val / 64) + q.val, by have : (y 1).val < 1024 := (y 1).isLt; omega⟩ : Fin 1024)))) (Ideal.ofBits .f32 0x42800000#32)

/-- Multiplying by the word for 1/64 is dividing by the word for 64. -/
theorem mul_64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee]; rw [← EReal.coe_mul]; norm_num
  have h2 : Ideal.ofBits .f32 0x42800000#32 = ((64 : ℝ) : EReal) := by
    simp [Ideal.ofBits, Ideal.ieee]; rw [← EReal.coe_mul]; norm_num
  rw [h1, h2, Ideal.div, if_neg (by norm_num), ← EReal.coe_inv]
  norm_num

theorem cen_eq (v0 v1 : Vec Ideal S256x1024 .f32) (e : Vec Ideal S1024x128 .bf16) (et : Vec Ideal S128x1024 .bf16)
    (he : ∀ (k : Fin 1024) (h : Fin 128), e (ix2 k h) = if k.val / 64 = h.val then 1 else 0)
    (het : ∀ (k : Fin 1024) (h : Fin 128), et (ix2 h k) = e (ix2 k h))
    (hx : ∀ y, ∃ r : ℝ, v0 y + v1 y = r) : k0_pay2 v0 v1 e e et et = cen v0 v1 := by
  funext y
  idx_vars y
  pointwise [k0_pay2, cen]
  simp only [het, mul_64]
  rw [SegSum.seg_sum (fun k => v0 (ix2 y0 k) + v1 (ix2 y0 k)) (fun k => hx _) (fun k h => e (ix2 k h)) he y1]

/-- A finite row less its mean is finite. -/
theorem cen_fin (v0 v1 : Vec Ideal S256x1024 .f32) (hx : ∀ y, ∃ r : ℝ, v0 y + v1 y = r) (y : S256x1024.Idx) :
    ∃ r : ℝ, cen v0 v1 y = r := by
  choose f hf using hx
  unfold cen
  rw [← mul_64, show Ideal.ofBits .f32 0x3C800000#32 = ((1 / 64 : ℝ) : EReal) by
    simp [Ideal.ofBits, Ideal.ieee]; rw [← EReal.coe_mul]; norm_num]
  simp only [hf]
  rw [SegSum.coe_sum, ← EReal.coe_mul, ← EReal.coe_sub]
  exact ⟨_, rfl⟩

/-- The gated row of a block from its centred one. -/
def gate (C : S256x1024.Idx → EReal) (lg lb : Vec Ideal S1x1024 .f32) (bv g : Vec Ideal S256x1024 .f32) (r : Fin 256) (k : Fin 1024) : EReal :=
  (C (ix2 r k) * Ideal.rsqrt (Ideal.div (∑ q : Fin 64, C (ix2 r (⟨64 * (k.val / 64) + q.val, by omega⟩ : Fin 1024))
      * C (ix2 r (⟨64 * (k.val / 64) + q.val, by omega⟩ : Fin 1024))) (Ideal.ofBits .f32 0x42800000#32)
    + Ideal.ofBits .f32 0x3A27C5AC#32) * lg (ix2 0 k) + lb (ix2 0 k) + bv (ix2 r k)) * g (ix2 r k)

set_option pp.maxSteps 600 in
theorem out_eq (v0 v1 bv g : Vec Ideal S256x1024 .f32) (lg lb : Vec Ideal S1x1024 .f32) (w : Vec Ideal S1024x1024 .bf16)
    (e : Vec Ideal S1024x128 .bf16) (et : Vec Ideal S128x1024 .bf16)
    (he : ∀ (k : Fin 1024) (h : Fin 128), e (ix2 k h) = if k.val / 64 = h.val then 1 else 0)
    (het : ∀ (k : Fin 1024) (h : Fin 128), et (ix2 h k) = e (ix2 k h))
    (hx : ∀ y, ∃ r : ℝ, v0 y + v1 y = r) (r : Fin 256) (d : Fin 1024) :
    k0_pay1 (k0_pay2 v0 v1 e e et et) (k0_pay3 v0 v1 e e et et e e) et et lg lb bv g w (ix2 r d)
      = ∑ k : Fin 1024, gate (cen v0 v1) lg lb bv g r k * w (ix2 k d) := by
  unfold k0_pay3
  rw [cen_eq v0 v1 e et he het hx]
  have hC := cen_fin v0 v1 hx
  generalize cen v0 v1 = C at hC
  have hCC : ∀ y, ∃ r : ℝ, C y * C y = r := fun y => by
    obtain ⟨a, ha⟩ := hC y
    exact ⟨a * a, by rw [ha, EReal.coe_mul]⟩
  pointwise [k0_pay1]
  refine Finset.sum_congr rfl fun k _ => ?_
  simp only [het, mul_64]
  rw [SegSum.seg_sum (fun k => C (ix2 r k) * C (ix2 r k)) (fun k => hCC _) (fun k h => e (ix2 k h)) he k]
  unfold gate
  rfl

end Cert.PostKer
end
-- ==== Proof.PostFin.lean ====
/-
  The kernel's result after the recurrence, over the whole array: the reference's.
-/
module

public import proofs.«01_k».proof.Proof.PostRef
public import proofs.«01_k».proof.Proof.PostKer
public import proofs.«01_k».proof.Proof.Gen.Kernel6Ideal.Value

@[expose] public section

set_option maxRecDepth 16384

noncomputable section

namespace Cert.PostFin

open Cert.Kernel6Ideal Cert.Kernel6Ideal.Gen Idealize.ShloMosaic Idealize.ShloMosaic.TcCoe Idealize.SL.Sem
open Idealize.ShloMosaic.Pipeline (Dat)
open Cert.PostRef Cert.PostKer

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

abbrev A0 : FVec Ideal S24576x1024 .f32 := m ((c.tc : Thread nD τ).loc main_arg0)
abbrev A1 : FVec Ideal S24576x1024 .f32 := m ((c.tc : Thread nD τ).loc main_arg1)
abbrev A2 : FVec Ideal S24576x1024 .f32 := m ((c.tc : Thread nD τ).loc main_arg2)
abbrev A3 : FVec Ideal S24576x1024 .f32 := m ((c.tc : Thread nD τ).loc main_arg3)
abbrev A4 : FVec Ideal S1024 .f32 := m ((c.tc : Thread nD τ).loc main_arg4)
abbrev A5 : FVec Ideal S1024 .f32 := m ((c.tc : Thread nD τ).loc main_arg5)
abbrev A6 : FVec Ideal S1024x1024 .f32 := m ((c.tc : Thread nD τ).loc main_arg6)

abbrev C := cenR (A0 m c) (A1 m c)
abbrev G := gateR (C m c) (A2 m c) (A3 m c) (A4 m c) (A5 m c)

abbrev B0 (t : Fin cfg0.N) : FVec Ideal S256x1024 .f32 := iblk m c 0 t
abbrev B1 (t : Fin cfg0.N) : FVec Ideal S256x1024 .f32 := iblk m c 1 t
abbrev B6 (t : Fin cfg0.N) : FVec Ideal S1024x128 .bf16 := iblk m c 6 t
abbrev B7 (t : Fin cfg0.N) : FVec Ideal S128x1024 .bf16 := iblk m c 7 t

/-- The array row of row `r` of block `t`. -/
abbrev tok (t : Fin cfg0.N) (r : Fin 256) : Fin 24576 := ⟨256 * t.val + r.val, by have := t.isLt; have h : cfg0.N = 96 := rfl; omega⟩

/-- The centred row of a block is the reference's. -/
theorem cen_at (t : Fin cfg0.N) (r : Fin 256) (h : Fin 16) (q : Fin 64) :
    cen (iblk m c 0 t) (iblk m c 1 t) (ix2 r (⟨64 * h.val + q.val, by omega⟩ : Fin 1024)) = C m c (ix3 (tok t r) h q) := by
  rw [C, cenR_at]
  have e : (64 * h.val + q.val) / 64 = h.val := by omega
  unfold cen
  pointwise
  simp only [e]
  blk_point [iblk, V, idx t]

/-- The gated row of a block is the reference's. -/
theorem gate_at (t : Fin cfg0.N) (r : Fin 256) (k : Fin 1024) :
    gate (cen (iblk m c 0 t) (iblk m c 1 t)) (iblk m c 4 t) (iblk m c 5 t) (iblk m c 2 t) (iblk m c 3 t) r k = G m c (ix2 (tok t r) k) := by
  have h := gateR_at (C m c) (A2 m c) (A3 m c) (A4 m c) (A5 m c) (tok t r) ⟨k.val / 64, by omega⟩ ⟨k.val % 64, by omega⟩
  have e : (⟨64 * (k.val / 64) + k.val % 64, by omega⟩ : Fin 1024) = k := Fin.ext (by simp only []; omega)
  have hk : cen (iblk m c 0 t) (iblk m c 1 t) (ix2 r k) = C m c (ix3 (tok t r) ⟨k.val / 64, by omega⟩ ⟨k.val % 64, by omega⟩) := by
    rw [← cen_at m c t r ⟨k.val / 64, by omega⟩ ⟨k.val % 64, by omega⟩]
    exact congrArg (fun d => cen (iblk m c 0 t) (iblk m c 1 t) (ix2 r d)) e.symm
  have hs := fun q : Fin 64 => cen_at m c t r ⟨k.val / 64, by omega⟩ q
  simp only [e] at h
  simp only [] at hs
  refine Eq.trans ?_ h.symm
  unfold gate
  rw [hk]
  simp only [hs]
  generalize C m c = C
  blk_point [iblk, V, idx t]

/-- The result of the kernel, from its two constant blocks and the finiteness of the two directions' rows. -/
theorem final_of (he : ∀ t (k : Fin 1024) (h : Fin 128), B6 m c t (ix2 k h) = if k.val / 64 = h.val then 1 else 0)
    (het : ∀ t (k : Fin 1024) (h : Fin 128), B7 m c t (ix2 h k) = if k.val / 64 = h.val then 1 else 0)
    (h0 : ∀ i, ∃ r : ℝ, A0 m c i = r) (h1 : ∀ i, ∃ r : ℝ, A1 m c i = r) :
    (dats m 0 c).arrAt 9 (cfgs 0).N = outR (G m c) (A6 m c) := by
  refine (dats m 0 c).arrAt_eq_of_covers 9 _ (by decide +kernel) fun t _ y => ?_
  blk_simp
  rw [after0_9]
  frame_out
  idx_vars y
  have hx : ∀ y, ∃ r : ℝ, B0 m c t y + B1 m c t y = r := fun y => by
    have e0 : ∃ r : ℝ, B0 m c t y = r := h0 _
    have e1 : ∃ r : ℝ, B1 m c t y = r := h1 _
    obtain ⟨a, ha⟩ := e0
    obtain ⟨b, hb⟩ := e1
    exact ⟨a + b, by rw [ha, hb, EReal.coe_add]⟩
  refine (out_eq (iblk m c 0 t) (iblk m c 1 t) (iblk m c 2 t) (iblk m c 3 t) (iblk m c 4 t) (iblk m c 5 t) (iblk m c 8 t)
    (iblk m c 6 t) (iblk m c 7 t) (he t) (fun k h => (het t k h).trans (he t k h).symm) hx y0 y1).trans ?_
  simp only [gate_at m c t]
  generalize G m c = G
  pointwise [outR]
  blk_point [iblk, V, idx t]

end Cert.PostFin
end
-- ==== Proof.PostWord.lean ====
/-
  What the output call's constant table holds, stated in pieces: it says which head a column belongs to, a row for each of the
  1024 columns.
-/
module

public import proofs.«01_k».proof.Kernel6Ideal

@[expose] public section

namespace Cert.PostWord

open Cert.Kernel6Ideal

/-- The word of one where column `k` belongs to head `h`, the word of zero elsewhere. -/
abbrev word (k h : ℕ) : BitVec 16 := if k / 64 = h then 0x3F80#16 else 0x0000#16

/-- The 32 rows of the table from row `32 n` on. -/
abbrev Rows (n : ℕ) : Prop := ∀ k : Fin 32, ∀ h : Fin 128, lit0t (128 * (32 * n + k.val) + h.val) = word (32 * n + k.val) h.val

end Cert.PostWord
-- ==== Proof.PostWord0.lean ====
/-
  Piece 0 of the constant table.
-/
module

public import proofs.«01_k».proof.Proof.PostWord

@[expose] public section

set_option maxRecDepth 16384
set_option maxHeartbeats 2000000
set_option Elab.async false

namespace Cert.PostWord

/-- Rows 0 to 127 of the table. -/
theorem rows0 : ∀ j : Fin 4, Rows (4 * 0 + j.val)
  | 0 => by decide +kernel
  | 1 => by decide +kernel
  | 2 => by decide +kernel
  | 3 => by decide +kernel

end Cert.PostWord
-- ==== Proof.PostWord1.lean ====
/-
  Piece 1 of the constant table.
-/
module

public import proofs.«01_k».proof.Proof.PostWord

@[expose] public section

set_option maxRecDepth 16384
set_option maxHeartbeats 2000000
set_option Elab.async false

namespace Cert.PostWord

/-- Rows 128 to 255 of the table. -/
theorem rows1 : ∀ j : Fin 4, Rows (4 * 1 + j.val)
  | 0 => by decide +kernel
  | 1 => by decide +kernel
  | 2 => by decide +kernel
  | 3 => by decide +kernel

end Cert.PostWord
-- ==== Proof.PostWord2.lean ====
/-
  Piece 2 of the constant table.
-/
module

public import proofs.«01_k».proof.Proof.PostWord

@[expose] public section

set_option maxRecDepth 16384
set_option maxHeartbeats 2000000
set_option Elab.async false

namespace Cert.PostWord

/-- Rows 256 to 383 of the table. -/
theorem rows2 : ∀ j : Fin 4, Rows (4 * 2 + j.val)
  | 0 => by decide +kernel
  | 1 => by decide +kernel
  | 2 => by decide +kernel
  | 3 => by decide +kernel

end Cert.PostWord
-- ==== Proof.PostWord3.lean ====
/-
  Piece 3 of the constant table.
-/
module

public import proofs.«01_k».proof.Proof.PostWord

@[expose] public section

set_option maxRecDepth 16384
set_option maxHeartbeats 2000000
set_option Elab.async false

namespace Cert.PostWord

/-- Rows 384 to 511 of the table. -/
theorem rows3 : ∀ j : Fin 4, Rows (4 * 3 + j.val)
  | 0 => by decide +kernel
  | 1 => by decide +kernel
  | 2 => by decide +kernel
  | 3 => by decide +kernel

end Cert.PostWord
-- ==== Proof.PostWord4.lean ====
/-
  Piece 4 of the constant table.
-/
module

public import proofs.«01_k».proof.Proof.PostWord

@[expose] public section

set_option maxRecDepth 16384
set_option maxHeartbeats 2000000
set_option Elab.async false

namespace Cert.PostWord

/-- Rows 512 to 639 of the table. -/
theorem rows4 : ∀ j : Fin 4, Rows (4 * 4 + j.val)
  | 0 => by decide +kernel
  | 1 => by decide +kernel
  | 2 => by decide +kernel
  | 3 => by decide +kernel

end Cert.PostWord
-- ==== Proof.PostWord5.lean ====
/-
  Piece 5 of the constant table.
-/
module

public import proofs.«01_k».proof.Proof.PostWord

@[expose] public section

set_option maxRecDepth 16384
set_option maxHeartbeats 2000000
set_option Elab.async false

namespace Cert.PostWord

/-- Rows 640 to 767 of the table. -/
theorem rows5 : ∀ j : Fin 4, Rows (4 * 5 + j.val)
  | 0 => by decide +kernel
  | 1 => by decide +kernel
  | 2 => by decide +kernel
  | 3 => by decide +kernel

end Cert.PostWord
-- ==== Proof.PostWord6.lean ====
/-
  Piece 6 of the constant table.
-/
module

public import proofs.«01_k».proof.Proof.PostWord

@[expose] public section

set_option maxRecDepth 16384
set_option maxHeartbeats 2000000
set_option Elab.async false

namespace Cert.PostWord

/-- Rows 768 to 895 of the table. -/
theorem rows6 : ∀ j : Fin 4, Rows (4 * 6 + j.val)
  | 0 => by decide +kernel
  | 1 => by decide +kernel
  | 2 => by decide +kernel
  | 3 => by decide +kernel

end Cert.PostWord
-- ==== Proof.PostWord7.lean ====
/-
  Piece 7 of the constant table.
-/
module

public import proofs.«01_k».proof.Proof.PostWord

@[expose] public section

set_option maxRecDepth 16384
set_option maxHeartbeats 2000000
set_option Elab.async false

namespace Cert.PostWord

/-- Rows 896 to 1023 of the table. -/
theorem rows7 : ∀ j : Fin 4, Rows (4 * 7 + j.val)
  | 0 => by decide +kernel
  | 1 => by decide +kernel
  | 2 => by decide +kernel
  | 3 => by decide +kernel

end Cert.PostWord
-- ==== Proof.PostTab.lean ====
/-
  What the kernel's two constant windows hold, a table and its transpose: one where the column belongs to the head, zero elsewhere.
-/
module

public import proofs.«01_k».proof.Proof.PostFin
public import proofs.«01_k».proof.Proof.PostWord0
public import proofs.«01_k».proof.Proof.PostWord1
public import proofs.«01_k».proof.Proof.PostWord2
public import proofs.«01_k».proof.Proof.PostWord3
public import proofs.«01_k».proof.Proof.PostWord4
public import proofs.«01_k».proof.Proof.PostWord5
public import proofs.«01_k».proof.Proof.PostWord6
public import proofs.«01_k».proof.Proof.PostWord7

@[expose] public section

set_option maxRecDepth 16384

noncomputable section

namespace Cert.PostTab

open Cert.Kernel6Ideal Cert.Kernel6Ideal.Gen Idealize.ShloMosaic Idealize.ShloMosaic.TcCoe Idealize.SL.Sem
open Cert.PostWord Cert.PostFin

/-- Eight groups of four pieces are all of them. -/
theorem all_of {P : ℕ → Prop} (h0 : ∀ j : Fin 4, P (4 * 0 + j.val)) (h1 : ∀ j : Fin 4, P (4 * 1 + j.val))
    (h2 : ∀ j : Fin 4, P (4 * 2 + j.val)) (h3 : ∀ j : Fin 4, P (4 * 3 + j.val))
    (h4 : ∀ j : Fin 4, P (4 * 4 + j.val)) (h5 : ∀ j : Fin 4, P (4 * 5 + j.val))
    (h6 : ∀ j : Fin 4, P (4 * 6 + j.val)) (h7 : ∀ j : Fin 4, P (4 * 7 + j.val)) :
    ∀ w : Fin 8, ∀ j : Fin 4, P (4 * w.val + j.val)
  | 0 => h0 | 1 => h1 | 2 => h2 | 3 => h3 | 4 => h4 | 5 => h5 | 6 => h6 | 7 => h7

/-- All the pieces of the table. -/
theorem rows : ∀ w : Fin 8, ∀ j : Fin 4, Rows (4 * w.val + j.val) :=
  all_of (P := Rows) rows0 rows1 rows2 rows3 rows4 rows5 rows6 rows7

/-- An entry of the table, by its place in it. -/
theorem lit0_at (k : Fin 1024) (h : Fin 128) (i : Fin 131072) (hi : i.val = k.val * 128 + h.val) : lit0 i = word k.val h.val := by
  have e := rows ⟨k.val / 128, by omega⟩ ⟨k.val / 32 % 4, by omega⟩ ⟨k.val % 32, by omega⟩ h
  simp only [] at e
  have ek : 32 * (4 * (k.val / 128) + k.val / 32 % 4) + k.val % 32 = k.val := by omega
  have ei : 128 * (32 * (4 * (k.val / 128) + k.val / 32 % 4) + k.val % 32) + h.val = i.val := by omega
  exact (congrArg lit0t ei.symm).trans (e.trans (congrArg (fun j => word j h.val) ek))

/-- The word's value. -/
theorem val_word (k h : ℕ) : Ideal.ofBits .bf16 (word k h) = if k / 64 = h then 1 else 0 := by
  unfold word
  split
  · have e : (16256 >>> 7 % 256 : ℕ) = 127 := by decide
    have b : ¬ (BitVec.extractLsb' 15 1 16256#16 = 1#1) := by decide
    norm_num [Ideal.ofBits, Ideal.ieee, e, b]
  · norm_num [Ideal.ofBits, Ideal.ieee]

variable (m : (ℓ : Loc nD τ sig) → Buf (Elt Ideal) ℓ) (c : Dev nD)

/-- The first constant window. -/
theorem he (t : Fin cfg0.N) (k : Fin 1024) (h : Fin 128) : B6 m c t (ix2 k h) = if k.val / 64 = h.val then 1 else 0 := by
  refine Eq.trans ?_ (val_word k.val h.val)
  refine Eq.trans ?_ (congrArg (Ideal.ofBits .bf16) (lit0_at k h (S1024x128.rowMajor (ix2 k h)) (Shape.rowMajor_val_two _)))
  have e : (V m c main_cst : FVec Ideal S1024x128 .bf16) = (fun i => Ideal.ofBits .bf16 (lit0 (S1024x128.rowMajor i)) : FVec Ideal S1024x128 .bf16) := by
    dsimp only [V, hostOps0]
    after_results_simp
    generalize lit0 = L
    rfl
  refine Eq.trans ?_ (congrFun e (ix2 k h))
  blk_point [iblk, idx t]

/-- The second constant window, its transpose. -/
theorem het (t : Fin cfg0.N) (k : Fin 1024) (h : Fin 128) : B7 m c t (ix2 h k) = if k.val / 64 = h.val then 1 else 0 := by
  refine Eq.trans ?_ (he m c t k h)
  have e : (V m c main_v3 : FVec Ideal S128x1024 .bf16)
      = (transpose S128x1024 [1, 0] (V m c main_cst : FVec Ideal S1024x128 .bf16) transposes_S1024x128_S128x1024_1_0 : FVec Ideal S128x1024 .bf16) := by
    dsimp only [V, hostOps0]
    after_results_simp
  have e6 : B6 m c t (ix2 k h) = (V m c main_cst : FVec Ideal S1024x128 .bf16) (ix2 k h) := by
    blk_point [iblk, idx t]
  have e7 : B7 m c t (ix2 h k) = (V m c main_v3 : FVec Ideal S128x1024 .bf16) (ix2 h k) := by
    blk_point [iblk, idx t]
  rw [e6, e7, e]
  generalize (V m c main_cst : FVec Ideal S1024x128 .bf16) = x
  pointwise

end Cert.PostTab
end
-- ==== Proof.PostPre.lean ====
/-
  The precondition of the output call: that the two directions' rows are finite. What the precondition's function says of them.
-/
module

public import proofs.«01_k».proof.Pre_finite_scan
public import proofs.«01_k».proof.Proof.Gen.Pre_finite_scan
public import Idealize.ShloMosaic.Lib.ReduceAll
public import Idealize.ShloMosaic.Lib.Pointwise

@[expose] public section

set_option maxRecDepth 16384

noncomputable section

namespace Cert.PostPre

open Cert.Pre_finite_scan Idealize.ShloMosaic

/-- A number whose absolute value is below the word for infinity is a real. -/
theorem real_of (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

instance : Subsingleton S_.Idx := ⟨fun a b => funext fun i => i.elim0⟩

/-- Where the precondition's function gives one, both directions' rows are real throughout. -/
theorem real_of_fn (a0 a1 a2 a3 : FVec Ideal S24576x1024 .f32) (a4 a5 : FVec Ideal S1024 .f32) (a6 : FVec Ideal S1024x1024 .f32)
    (h : fn a0 a1 a2 a3 a4 a5 a6 = fun _ => 1#1) : (∀ y, ∃ r : ℝ, a0 y = r) ∧ (∀ y, ∃ r : ℝ, a1 y = r) := by
  obtain ⟨h0, h1⟩ := IntOp.andi_eq_one.1 (congrFun h (fun i => i.elim0))
  exact ⟨fun y => real_of _ (Host.reduce_andi_all _ _ _ _ _ h0 y), fun y => real_of _ (Host.reduce_andi_all _ _ _ _ _ h1 y)⟩

end Cert.PostPre
end
-- ==== Proof.PostClaim.lean ====
/-
  The claims about the output call.
-/
module

public import proofs.«01_k».proof.Proof.PostTab
public import proofs.«01_k».proof.Proof.PostPre
public import proofs.«01_k».proof.Defs

@[expose] public section

set_option maxRecDepth 16384

noncomputable section

namespace Cert.PostClaim

open Idealize.ShloMosaic Idealize.SL.Sem

/-- The reference's run ends with its arguments unchanged and every counter zero. -/
theorem frame_ref : Cert.quiescent_Reference6Ideal := fun m ρ _ =>
  (θ_run Cert.Reference6Ideal.defs _ _).mono (fun r h => ⟨fun c => (h c).2, sem_eq_zero_of_no_sems (by decide) r.2⟩)
    (PostRef.run m ρ)

/-- So too under the precondition, which the frame does not need. -/
theorem frame_ref_pre : Cert.quiescent_Reference6Ideal_pre_finite_scan := fun m ρ _ =>
  (θ_run Cert.Reference6Ideal.defs _ _).mono (fun r h => ⟨fun c => (h c).2, sem_eq_zero_of_no_sems (by decide) r.2⟩)
    (PostRef.run m ρ)

/-- The kernel's result, where the two directions' rows are finite. -/
theorem final (m : (ℓ : Loc Cert.Kernel6Ideal.nD Cert.Kernel6Ideal.τ Cert.Kernel6Ideal.sig) → Buf (Elt Ideal) ℓ)
    (hpre : Cert.Pre_Kernel6Ideal_finite_scan m) (c : Dev Cert.Kernel6Ideal.nD) :
    (Cert.Kernel6Ideal.Gen.dats m 0 c).arrAt 9 (Cert.Kernel6Ideal.cfgs 0).N = PostRef.outR (PostFin.G m c) (PostFin.A6 m c) :=
  have h := PostPre.real_of_fn _ _ _ _ _ _ _ (hpre c)
  PostFin.final_of m c (PostTab.he m c) (PostTab.het m c) h.1 h.2

/-- The kernel and the reference, run from equal arguments with finite rows, end with equal results. -/
theorem algebraic : Cert.algebraic_Kernel6Ideal_Reference6Ideal_pre_finite_scan := by
  intro m g m' g' hpre hh
  refine ⟨fun c => PostRef.outR (PostFin.G m c) (PostFin.A6 m c), ?_, ?_⟩
  · refine (θ_run Cert.Kernel6Ideal.defs _ _).mono (fun r h c => ?_) (Cert.Kernel6Ideal.Value.run_blocks m g)
    obtain ⟨h0, h2⟩ := h c
    exact ⟨h0.trans (final m hpre c), h2⟩
  · refine (θ_run Cert.Reference6Ideal.defs _ _).mono (fun r h c => ?_) (PostRef.run m' g')
    obtain ⟨h0, h2⟩ := h c
    obtain ⟨a0, a1, a2, a3, a4, a5, a6⟩ := hh c
    exact ⟨h0.trans (by rw [a0, a1, a2, a3, a4, a5, a6]), h2⟩

end Cert.PostClaim
end
-- ==== Proof.lean ====
module

public import proofs.«01_k».proof.Proof.Gen.KernelIdeal.Value
public import proofs.«01_k».proof.Proof.Gen.ReferenceIdeal.Run
public import proofs.«01_k».proof.Proof.FfnClaim
public import proofs.«01_k».proof.Proof.Gen.Kernel2Ideal.Value
public import proofs.«01_k».proof.Proof.Gen.Reference2Ideal.Run
public import proofs.«01_k».proof.Proof.Gen.Kernel2
public import proofs.«01_k».proof.Proof.Gen.Kernel2Ideal
public import proofs.«01_k».proof.Proof.Gen.Kernel2.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3Ideal
public import proofs.«01_k».proof.Proof.Gen.Kernel3.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4Ideal
public import proofs.«01_k».proof.Proof.Gen.Kernel4.Frame
public import proofs.«01_k».proof.Proof.Gen.Reference4Ideal
public import proofs.«01_k».proof.Proof.Gen.Kernel5
public import proofs.«01_k».proof.Proof.Gen.Kernel5Ideal
public import proofs.«01_k».proof.Proof.Gen.Kernel6Ideal.Value
public import proofs.«01_k».proof.Proof.Gen.Reference6Ideal.Run
public import proofs.«01_k».proof.Proof.Gen.Pre_finite_scan
public import proofs.«01_k».proof.Proof.Gen.Kernel6
public import proofs.«01_k».proof.Proof.Gen.Kernel6Ideal
public import proofs.«01_k».proof.Proof.Gen.Kernel6.Frame
public import proofs.«01_k».proof.Proof.Gen.Reference6Ideal
public import proofs.«01_k».proof.Proof.CmlpClaim
public import proofs.«01_k».proof.Proof.InpAClaim
public import proofs.«01_k».proof.Proof.InpBClaim
public import proofs.«01_k».proof.Proof.ScanClaim
public import proofs.«01_k».proof.Proof.PostClaim
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Every claim of the certificate: the frames, then for each call that the ideal program is the kernel, and the equation. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Kernel6.Gen.facts,
  Cert.Kernel6Ideal.Gen.facts,
  Cert.Reference6Ideal.Gen.facts,
  Cert.Pre_finite_scan.Gen.facts,
  fun m ρ _ => Cert.Kernel.Gen.frame m ρ, fun m ρ _ => Cert.KernelIdeal.Gen.frame m ρ, Cert.FfnClaim.frame_ref,
  fun m ρ _ => Cert.Kernel2.Gen.frame m ρ, fun m ρ _ => Cert.Kernel2Ideal.Gen.frame m ρ, Cert.CmlpClaim.frame_ref,
  fun m ρ _ => Cert.Kernel3.Gen.frame m ρ, fun m ρ _ => Cert.Kernel3Ideal.Gen.frame m ρ, Cert.InpAClaim.frame_ref,
  fun m ρ _ => Cert.Kernel4.Gen.frame m ρ, fun m ρ _ => Cert.Kernel4Ideal.Gen.frame m ρ, Cert.InpBClaim.frame_ref,
  Cert.ScanClaim.frame_bits, Cert.ScanClaim.frame_ideal,
  fun m ρ _ => Cert.Kernel6.Gen.frame m ρ, fun m ρ _ => Cert.Kernel6Ideal.Gen.frame m ρ, fun m ρ _ => Cert.Kernel6Ideal.Gen.frame m ρ,
  Cert.PostClaim.frame_ref, Cert.PostClaim.frame_ref_pre,
  trivial, Cert.FfnClaim.algebraic,
  trivial, Cert.CmlpClaim.algebraic,
  trivial, Cert.InpAClaim.algebraic,
  trivial, Cert.InpBClaim.algebraic,
  trivial,
  trivial, Cert.PostClaim.algebraic⟩

end Cert.Proof

end
